-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "rs" .f32 0x3EB504F3#32 (((Real.sqrt 8)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S32768x64 : Shape := ⟨2, ![32768, 64]⟩
abbrev S16x64 : Shape := ⟨2, ![16, 64]⟩
abbrev S32768 : Shape := ⟨1, ![32768]⟩
abbrev S64x64 : Shape := ⟨2, ![64, 64]⟩
abbrev S64 : Shape := ⟨1, ![64]⟩
abbrev S_ : Shape := ⟨0, ![]⟩

class Facts : Prop where
  bcast_S_S32768 : S_.BroadcastsInDim S32768 (![] : Fin 0 → Fin S32768.rank)
  bcast_S_S32768x64 : S_.BroadcastsInDim S32768x64 (![] : Fin 0 → Fin S32768x64.rank)
  bcast_S_S16x64 : S_.BroadcastsInDim S16x64 (![] : Fin 0 → Fin S16x64.rank)
  bcast_S_S64x64 : S_.BroadcastsInDim S64x64 (![] : Fin 0 → Fin S64x64.rank)
  bcast_S_S64 : S_.BroadcastsInDim S64 (![] : Fin 0 → Fin S64.rank)

variable [Facts]

def fn_part1 {F : FTy → Type} [FloatOps F] (main_arg7 : FVec F S64 .f32) (main_v4 : IVec S32768 1) (main_v7 : IVec S32768x64 1) (main_v10 : IVec S16x64 1) (main_v13 : IVec S64x64 1) (main_v16 : IVec S64 1) (main_v17 : FVec F S64x64 .f32) : IVec S32768 1 × IVec S32768x64 1 × IVec S16x64 1 × IVec S64x64 1 × IVec S64 1 × IVec S64x64 1 × IVec S64 1 :=
  let main_cst_4 : FVec F S_ .f32 := constant S_ .f32 0x7F800000#32
  let main_v18 : FVec F S64x64 .f32 := broadcastInDim S64x64 ![] bcast_S_S64x64 main_cst_4
  let main_v19 : IVec S64x64 1 := cmpf .olt main_v17 main_v18
  let main_v20 : FVec F S64 .f32 := Host.absf main_arg7
  let main_cst_5 : FVec F S_ .f32 := constant S_ .f32 0x7F800000#32
  let main_v21 : FVec F S64 .f32 := broadcastInDim S64 ![] bcast_S_S64 main_cst_5
  let main_v22 : IVec S64 1 := cmpf .olt main_v20 main_v21
  (main_v4, main_v7, main_v10, main_v13, main_v16, main_v19, main_v22)

def fn {F : FTy → Type} [FloatOps F] (main_arg0 : FVec F S32768x64 .f32) (main_arg1 : FVec F S16x64 .f32) (main_arg2 : FVec F S16x64 .f32) (main_arg3 : IVec S32768 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) : IVec S32768 1 × IVec S32768x64 1 × IVec S16x64 1 × IVec S64x64 1 × IVec S64 1 × IVec S64x64 1 × IVec S64 1 :=
  let main_c : IVec S_ 32 := constantI S_ 32 0#32
  let main_v0 : IVec S32768 32 := broadcastInDim S32768 ![] bcast_S_S32768 main_c
  let main_v1 : IVec S32768 1 := cmpi .sge main_arg3 main_v0
  let main_c_0 : IVec S_ 32 := constantI S_ 32 16#32
  let main_v2 : IVec S32768 32 := broadcastInDim S32768 ![] bcast_S_S32768 main_c_0
  let main_v3 : IVec S32768 1 := cmpi .slt main_arg3 main_v2
  let main_v4 : IVec S32768 1 := andi main_v1 main_v3
  let main_v5 : FVec F S32768x64 .f32 := Host.absf main_arg0
  let main_cst : FVec F S_ .f32 := constant S_ .f32 0x7F800000#32
  let main_v6 : FVec F S32768x64 .f32 := broadcastInDim S32768x64 ![] bcast_S_S32768x64 main_cst
  let main_v7 : IVec S32768x64 1 := cmpf .olt main_v5 main_v6
  let main_v8 : FVec F S16x64 .f32 := Host.absf main_arg1
  let main_cst_1 : FVec F S_ .f32 := constant S_ .f32 0x7F800000#32
  let main_v9 : FVec F S16x64 .f32 := broadcastInDim S16x64 ![] bcast_S_S16x64 main_cst_1
  let main_v10 : IVec S16x64 1 := cmpf .olt main_v8 main_v9
  let main_v11 : FVec F S64x64 .f32 := Host.absf main_arg4
  let main_cst_2 : FVec F S_ .f32 := constant S_ .f32 0x7F800000#32
  let main_v12 : FVec F S64x64 .f32 := broadcastInDim S64x64 ![] bcast_S_S64x64 main_cst_2
  let main_v13 : IVec S64x64 1 := cmpf .olt main_v11 main_v12
  let main_v14 : FVec F S64 .f32 := Host.absf main_arg5
  let main_cst_3 : FVec F S_ .f32 := constant S_ .f32 0x7F800000#32
  let main_v15 : FVec F S64 .f32 := broadcastInDim S64 ![] bcast_S_S64 main_cst_3
  let main_v16 : IVec S64 1 := cmpf .olt main_v14 main_v15
  let main_v17 : FVec F S64x64 .f32 := Host.absf main_arg6
  fn_part1 (F := F) main_arg7 main_v4 main_v7 main_v10 main_v13 main_v16 main_v17
-- ==== Kernel.lean ====
abbrev S32768x64 : Shape := ⟨2, ![32768, 64]⟩
abbrev S16x64 : Shape := ⟨2, ![16, 64]⟩
abbrev S32768 : Shape := ⟨1, ![32768]⟩
abbrev S64x64 : Shape := ⟨2, ![64, 64]⟩
abbrev S64 : Shape := ⟨1, ![64]⟩
abbrev S8192x64 : Shape := ⟨2, ![8192, 64]⟩
abbrev S8192 : Shape := ⟨1, ![8192]⟩
abbrev S4x8192x64 : Shape := ⟨3, ![4, 8192, 64]⟩
abbrev S1x64 : Shape := ⟨2, ![1, 64]⟩
abbrev S1x8192 : Shape := ⟨2, ![1, 8192]⟩
abbrev S16x1 : Shape := ⟨2, ![16, 1]⟩
abbrev S16x8192 : Shape := ⟨2, ![16, 8192]⟩
abbrev S1x8192x64 : Shape := ⟨3, ![1, 8192, 64]⟩

abbrev nBuf : Space → Nat
  | .hbm => 13
  | .vmem => 22
  | .smem => 0
  | _ => 0

abbrev bufTy : (tb : Table) → Fin (tcTables nBuf tb) → BufTy
  | .hbm, ⟨0, _⟩ => ⟨S32768x64, .f32⟩
  | .hbm, ⟨1, _⟩ => ⟨S16x64, .f32⟩
  | .hbm, ⟨2, _⟩ => ⟨S16x64, .f32⟩
  | .hbm, ⟨3, _⟩ => ⟨S32768, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S32768x64, .f32⟩
  | .local _ .vmem, ⟨0, _⟩ => ⟨S8192x64, .f32⟩
  | .local _ .vmem, ⟨1, _⟩ => ⟨S8192x64, .f32⟩
  | .local _ .vmem, ⟨2, _⟩ => ⟨S8192, .i32⟩
  | .local _ .vmem, ⟨3, _⟩ => ⟨S8192, .i32⟩
  | .local _ .vmem, ⟨4, _⟩ => ⟨S16x64, .f32⟩
  | .local _ .vmem, ⟨5, _⟩ => ⟨S16x64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S8192x64, .f32⟩
  | .local _ .vmem, ⟨15, _⟩ => ⟨S8192x64, .f32⟩
  | .local _ .vmem, ⟨16, _⟩ => ⟨S4x8192x64, .bf16⟩
  | .local _ .vmem, ⟨17, _⟩ => ⟨S16x64, .bf16⟩
  | .local _ .vmem, ⟨18, _⟩ => ⟨S16x64, .bf16⟩
  | .local _ .vmem, ⟨19, _⟩ => ⟨S16x64, .f32⟩
  | .local _ .vmem, ⟨20, _⟩ => ⟨S16x64, .f32⟩
  | .local _ .vmem, ⟨21, _⟩ => ⟨S64x64, .bf16⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v37 : Index := Scalar.indexCast arg1
  let c0_16 : Index := 0#32
  let c0_17 : Index := 0#32
  ![v37.toNat, 0, 0]
def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k0_off2 (i : grid0.Coords) : Fin 3 → Nat :=
  let arg1 : BitVec 32 := BitVec.ofNat 32 (i 1).val
  let v27 : Index := Scalar.indexCast arg1
  let c0_10 : Index := 0#32
  let c0_11 : Index := 0#32
  ![v27.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S8192x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "rs" => some (((Real.sqrt 8)⁻¹ : ℝ) : EReal)
  | _ => none
-- ==== ReferenceIdeal.lean ====
abbrev S32768x64 : Shape := ⟨2, ![32768, 64]⟩
abbrev S16x64 : Shape := ⟨2, ![16, 64]⟩
abbrev S32768 : Shape := ⟨1, ![32768]⟩
abbrev S64x64 : Shape := ⟨2, ![64, 64]⟩
abbrev S64 : Shape := ⟨1, ![64]⟩
abbrev S1x64 : Shape := ⟨2, ![1, 64]⟩
abbrev S32768x8x8 : Shape := ⟨3, ![32768, 8, 8]⟩
abbrev S16x8x8 : Shape := ⟨3, ![16, 8, 8]⟩
abbrev S_ : Shape := ⟨0, ![]⟩
abbrev S32768x1 : Shape := ⟨2, ![32768, 1]⟩
abbrev S16 : Shape := ⟨1, ![16]⟩
abbrev S1x16 : Shape := ⟨2, ![1, 16]⟩
abbrev S32768x16 : Shape := ⟨2, ![32768, 16]⟩
abbrev S32768x16x1x1 : Shape := ⟨4, ![32768, 16, 1, 1]⟩
abbrev S32768x1x8x8 : Shape := ⟨4, ![32768, 1, 8, 8]⟩
abbrev S32768x16x8x8 : Shape := ⟨4, ![32768, 16, 8, 8]⟩

abbrev nBuf : Space → Nat
  | .hbm => 101
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S16x64, .f32⟩
  | .hbm, ⟨2, _⟩ => ⟨S16x64, .f32⟩
  | .hbm, ⟨3, _⟩ => ⟨S32768, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S32768x64, .f32⟩
  | .hbm, ⟨14, _⟩ => ⟨S1x64, .f32⟩
  | .hbm, ⟨15, _⟩ => ⟨S32768x64, .f32⟩
  | .hbm, ⟨16, _⟩ => ⟨S32768x64, .f32⟩
  | .hbm, ⟨17, _⟩ => ⟨S64x64, .f32⟩
  | .hbm, ⟨18, _⟩ => ⟨S16x64, .f32⟩
  | .hbm, ⟨19, _⟩ => ⟨S1x64, .f32⟩
  | .hbm, ⟨20, _⟩ => ⟨S16x64, .f32⟩
  | .hbm, ⟨21, _⟩ => ⟨S16x64, .f32⟩
  | .hbm, ⟨22, _⟩ => ⟨S64x64, .f32⟩
  | .hbm, ⟨23, _⟩ => ⟨S16x64, .f32⟩
  | .hbm, ⟨24, _⟩ => ⟨S1x64, .f32⟩
  | .hbm, ⟨25, _⟩ => ⟨S16x64, .f32⟩
  | .hbm, ⟨26, _⟩ => ⟨S16x64, .f32⟩
  | .hbm, ⟨27, _⟩ => ⟨S32768x8x8, .f32⟩
  | .hbm, ⟨28, _⟩ => ⟨S16x8x8, .f32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S32768x8x8, .f32⟩
  | .hbm, ⟨38, _⟩ => ⟨S16x8x8, .f32⟩
  | .hbm, ⟨39, _⟩ => ⟨S_, .i32⟩
  | .hbm, ⟨40, _⟩ => ⟨S32768, .i32⟩
  | .hbm, ⟨41, _⟩ => ⟨S32768, .i1⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S32768, .i32⟩
  | .hbm, ⟨46, _⟩ => ⟨S32768x1, .i32⟩
  | .hbm, ⟨47, _⟩ => ⟨S32768x8x8, .f32⟩
  | .hbm, ⟨48, _⟩ => ⟨S32768x8x8, .f32⟩
  | .hbm, ⟨49, _⟩ => ⟨S_, .f32⟩
  | .hbm, ⟨50, _⟩ => ⟨S_, .f32⟩
  | .hbm, ⟨51, _⟩ => ⟨S32768x8x8, .f32⟩
  | .hbm, ⟨52, _⟩ => ⟨S32768x8x8, .f32⟩
  | .hbm, ⟨53, _⟩ => ⟨S32768x1, .i32⟩
  | .hbm, ⟨54, _⟩ => ⟨S16, .i32⟩
  | .hbm, ⟨55, _⟩ => ⟨S1x16, .i32⟩
  | .hbm, ⟨56, _⟩ => ⟨S32768x16, .i32⟩
  | .hbm, ⟨57, _⟩ => ⟨S32768x16, .i32⟩
  | .hbm, ⟨58, _⟩ => ⟨S32768x16, .i1⟩
  | .hbm, ⟨59, _⟩ => ⟨S32768x16x1x1, .i1⟩
  | .hbm, ⟨60, _⟩ => ⟨S32768x1x8x8, .f32⟩
  | .hbm, ⟨61, _⟩ => ⟨S_, .f32⟩
  | .hbm, ⟨62, _⟩ => ⟨S_, .f32⟩
  | .hbm, ⟨63, _⟩ => ⟨S32768x16x8x8, .i1⟩
  | .hbm, ⟨64, _⟩ => ⟨S32768x16x8x8, .f32⟩
  | .hbm, ⟨65, _⟩ => ⟨S32768x16x8x8, .f32⟩
  | .hbm, ⟨66, _⟩ => ⟨S32768x16x8x8, .f32⟩
  | .hbm, ⟨67, _⟩ => ⟨S_, .f32⟩
  | .hbm, ⟨68, _⟩ => ⟨S16x8x8, .f32⟩
  | .hbm, ⟨69, _⟩ => ⟨S_, .i32⟩
  | .hbm, ⟨70, _⟩ => ⟨S32768, .i32⟩
  | .hbm, ⟨71, _⟩ => ⟨S32768, .i1⟩
  | .hbm, ⟨72, _⟩ => ⟨S_, .i32⟩
  | .hbm, ⟨73, _⟩ => ⟨S32768, .i32⟩
  | .hbm, ⟨74, _⟩ => ⟨S32768, .i32⟩
  | .hbm, ⟨75, _⟩ => ⟨S32768, .i32⟩
  | .hbm, ⟨76, _⟩ => ⟨S32768x1, .i32⟩
  | .hbm, ⟨77, _⟩ => ⟨S32768x8x8, .f32⟩
  | .hbm, ⟨78, _⟩ => ⟨S32768x8x8, .f32⟩
  | .hbm, ⟨79, _⟩ => ⟨S32768x8x8, .f32⟩
  | .hbm, ⟨80, _⟩ => ⟨S_, .f32⟩
  | .hbm, ⟨81, _⟩ => ⟨S16x8x8, .f32⟩
  | .hbm, ⟨82, _⟩ => ⟨S32768x1, .i32⟩
  | .hbm, ⟨83, _⟩ => ⟨S16x8x8, .f32⟩
  | .hbm, ⟨84, _⟩ => ⟨S_, .i32⟩
  | .hbm, ⟨85, _⟩ => ⟨S32768, .i32⟩
  | .hbm, ⟨86, _⟩ => ⟨S32768, .i1⟩
  | .hbm, ⟨87, _⟩ => ⟨S_, .i32⟩
  | .hbm, ⟨88, _⟩ => ⟨S32768, .i32⟩
  | .hbm, ⟨89, _⟩ => ⟨S32768, .i32⟩
  | .hbm, ⟨90, _⟩ => ⟨S32768, .i32⟩
  | .hbm, ⟨91, _⟩ => ⟨S32768x1, .i32⟩
  | .hbm, ⟨92, _⟩ => ⟨S32768x8x8, .f32⟩
  | .hbm, ⟨93, _⟩ => ⟨S32768x8x8, .f32⟩
  | .hbm, ⟨94, _⟩ => ⟨S32768x8x8, .f32⟩
  | .hbm, ⟨95, _⟩ => ⟨S32768x64, .f32⟩
  | .hbm, ⟨96, _⟩ => ⟨S64x64, .f32⟩
  | .hbm, ⟨97, _⟩ => ⟨S32768x64, .f32⟩
  | .hbm, ⟨98, _⟩ => ⟨S1x64, .f32⟩
  | .hbm, ⟨99, _⟩ => ⟨S32768x64, .f32⟩
  | .hbm, ⟨100, _⟩ => ⟨S32768x64, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_1 : Ref sig .tc := ⟨.hbm, 39, rfl⟩
abbrev main_v25 : Ref sig .tc := ⟨.hbm, 40, rfl⟩
abbrev main_v26 : Ref sig .tc := ⟨.hbm, 41, rfl⟩
abbrev main_c_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_v44 : Ref sig .tc := ⟨.hbm, 66, rfl⟩
abbrev main_cst_4 : Ref sig .tc := ⟨.hbm, 67, rfl⟩
abbrev main_v45 : Ref sig .tc := ⟨.hbm, 68, rfl⟩
abbrev main_c_5 : Ref sig .tc := ⟨.hbm, 69, rfl⟩
abbrev main_v46 : Ref sig .tc := ⟨.hbm, 70, rfl⟩
abbrev main_v47 : Ref sig .tc := ⟨.hbm, 71, rfl⟩
abbrev main_c_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_8 : Ref sig .tc := ⟨.hbm, 84, rfl⟩
abbrev main_v58 : Ref sig .tc := ⟨.hbm, 85, rfl⟩
abbrev main_v59 : Ref sig .tc := ⟨.hbm, 86, rfl⟩
abbrev main_c_9 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]
-- ==== Proof.Body.Setup.lean ====
/-
  The set-up of the idealized kernel's body: when each of its four branches runs, the memrefs it is called on at a
  point, and the scratch buffers.
-/
module

public import proofs.«01_k».proof.Proof.Gen.KernelIdeal.Frame
public import Idealize.ShloMosaic.Lib.VecWindow
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points before point 4 — by arithmetic of the point. -/
theorem hcond0_1 : ∀ t : Fin cfg0.N, cond0_1 (grid0.coords t) ↔ t.val < 4 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- It holds at point 4 only — by arithmetic of the point. -/
theorem hcond0_2 : ∀ t : Fin cfg0.N, cond0_2 (grid0.coords t) ↔ t.val % 8 = 4 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_2, e0, e1]
    word_cmp
   : ∀ t : Fin grid0.N, cond0_2 (grid0.coords t) ↔ t.val % 8 = 4)

/-- The condition of the body's `scf.if` 3 (`k0_h4`), from the grid coordinates (the skeleton's scalar
    chain substituted). -/
abbrev cond0_3 (i : grid0.Coords) : Prop := k0_cond4 i = 1#1
/-- It holds at the points from point 4 on — by arithmetic of the point. -/
theorem hcond0_3 : ∀ t : Fin cfg0.N, cond0_3 (grid0.coords t) ↔ 4 ≤ t.val :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_3, k0_cond4, e0, e1]
    word_cmp
   : ∀ t : Fin grid0.N, cond0_3 (grid0.coords t) ↔ 4 ≤ t.val)

/-- Each window's current staging memref at point `t`, spelled as the pipeline passes it (`bodyAt0`), and its wholeness. -/
abbrev ms0_0 (t : Fin cfg0.N) : Memref sig .tc .vmem S8192x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8192x64 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S4x8192x64 .bf16 := Memref.whole cc0_scratch0
abbrev scM0_1 : Memref sig .tc .vmem S16x64 .bf16 := Memref.whole cc0_scratch1
abbrev scM0_2 : Memref sig .tc .vmem S16x64 .bf16 := Memref.whole cc0_scratch2
abbrev scM0_3 : Memref sig .tc .vmem S16x64 .f32 := Memref.whole cc0_scratch3
abbrev scM0_4 : Memref sig .tc .vmem S16x64 .f32 := Memref.whole cc0_scratch4
abbrev scM0_5 : Memref sig .tc .vmem S64x64 .bf16 := Memref.whole cc0_scratch5
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Body

end
-- ==== Proof.Body.Data.lean ====
/-
  What the kernel's scratch buffers and output hold at every point, as the proof data of its pipeline.
-/
module

public import proofs.«01_k».proof.Proof.Body.Setup
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The point numbered `k` (of eight; the numbers repeat). -/
def pt (k : ℕ) : Fin cfg0.N := ⟨k % 8, lt_of_lt_of_eq (Nat.mod_lt _ (by decide)) (show 8 = cfg0.N from N_0.symm)⟩

theorem pt_val (t : Fin cfg0.N) : pt t.val = t :=
  Fin.ext (Nat.mod_eq_of_lt (lt_of_lt_of_eq t.isLt (show cfg0.N = 8 from N_0)))

/-- The slot of the exponentials' scratch that a point of the first pass stores. -/
theorem off1_eq (t : Fin cfg0.N) : k0_off1 (grid0.coords t) = ![t.val % 4, 0, 0] := by
  have e1 : (grid0.coords t 1).val = t.val / 1 % 4 := Pipeline.Grid.coords_val t 1 (by decide) rfl
  rw [Nat.div_one] at e1
  show ![(Scalar.indexCast (BitVec.ofNat 32 (grid0.coords t 1).val)).toNat, 0, 0] = _
  rw [e1]
  have h4 : t.val % 4 < 4 := Nat.mod_lt _ (by decide)
  generalize t.val % 4 = k at h4
  interval_cases k <;> rfl

/-- The slot of the exponentials' scratch that a point of the second pass loads. -/
theorem off2_eq (t : Fin cfg0.N) : k0_off2 (grid0.coords t) = ![t.val % 4, 0, 0] := by
  have e1 : (grid0.coords t 1).val = t.val / 1 % 4 := Pipeline.Grid.coords_val t 1 (by decide) rfl
  rw [Nat.div_one] at e1
  show ![(Scalar.indexCast (BitVec.ofNat 32 (grid0.coords t 1).val)).toNat, 0, 0] = _
  rw [e1]
  have h4 : t.val % 4 < 4 := Nat.mod_lt _ (by decide)
  generalize t.val % 4 = k at h4
  interval_cases k <;> rfl

/-- Such a slot lies inside the scratch. -/
theorem slot_inb (k : ℕ) (a : Fin 3) : (![k % 4, 0, 0] : Fin 3 → ℕ) a + S1x8192x64.size a ≤ S4x8192x64.size a := by
  have h4 : k % 4 < 4 := Nat.mod_lt _ (by decide)
  match a with
  | 0 => exact h4
  | 1 => exact le_refl 8192
  | 2 => exact le_refl 64

variable (m : (ℓ : Loc nD τ sig) → Buf (Elt F) ℓ)

/-! ## What the scratch buffers hold -/

/-- The projected keys. -/
def KP (c : Dev nD) : Vec F S16x64 .bf16 := k0_pay8 (iblk m c 2 (pt 0)) (iblk m c 6 (pt 0)) (iblk m c 7 (pt 0))

/-- The projected values. -/
def VP (c : Dev nD) : Vec F S16x64 .f32 := k0_pay9 (iblk m c 3 (pt 0)) (iblk m c 8 (pt 0)) (iblk m c 9 (pt 0))

/-- The cast output weights. -/
def WO (c : Dev nD) : Vec F S64x64 .bf16 := k0_pay7 (iblk m c 10 (pt 0))

/-- The segment sums before point `n`. -/
def DEN (c : Dev nD) : ℕ → Vec F S16x64 .f32
  | 0 => k0_pay10
  | n + 1 => if n < 4 then k0_pay4 (iblk m c 1 (pt n)) (iblk m c 0 (pt n)) (iblk m c 4 (pt n)) (KP m c) (iblk m c 5 (pt n)) (DEN c n) else DEN c n

/-- The exponentials of the point numbered `n`. -/
def EX (c : Dev nD) (n : ℕ) : Vec F S1x8192x64 .bf16 :=
  k0_pay3 (iblk m c 1 (pt n)) (iblk m c 0 (pt n)) (iblk m c 4 (pt n)) (KP m c) (iblk m c 5 (pt n))

/-- All the exponentials, one slot a point of the first pass. -/
def EFIN (c : Dev nD) : Vec F S4x8192x64 .bf16 :=
  fun j => EX m c (j 0).val (fun | 0 => ⟨0, by decide⟩ | 1 => j 1 | 2 => j 2)

/-- The table of values over segment sums. -/
def WTAB (c : Dev nD) : Vec F S16x64 .bf16 := k0_pay5 (DEN m c 4) (VP m c)

/-- The output tile of a point of the second pass. -/
def OUT (c : Dev nD) (t : Fin cfg0.N) : Vec F S8192x64 .f32 :=
  k0_pay6 (iblk m c 1 t) (WTAB m c) (VecWindow.window (EFIN m c) ![t.val % 4, 0, 0] S1x8192x64.size (slot_inb t.val)) (WO m c) (iblk m c 11 t)

theorem DEN_succ (c : Dev nD) (n : ℕ) (h : n < 4) :
    DEN m c (n + 1) = k0_pay4 (iblk m c 1 (pt n)) (iblk m c 0 (pt n)) (iblk m c 4 (pt n)) (KP m c) (iblk m c 5 (pt n)) (DEN m c n) :=
  if_pos h

theorem DEN_late (c : Dev nD) (n : ℕ) (h : 4 ≤ n) : DEN m c n = DEN m c 4 := by
  induction n, h using Nat.le_induction with
  | base => rfl
  | succ n hn ih => exact (if_neg (Nat.not_lt.2 hn)).trans ih

/-- Storing a point's exponentials fills one more slot. -/
theorem put_slot (c : Dev nD) (n : ℕ) (h : n < 4) (X : Vec F S4x8192x64 .bf16)
    (hX : ∀ j : S4x8192x64.Idx, (j 0).val < n → X j = EFIN m c j) :
    ∀ j : S4x8192x64.Idx, (j 0).val < n + 1 → VecWindow.put X ![n, 0, 0] S1x8192x64.size (EX m c n) j = EFIN m c j := by
  intro j hj
  unfold VecWindow.put
  have b1 : (j 1).val < 8192 := (j 1).isLt
  have b2 : (j 2).val < 64 := (j 2).isLt
  by_cases he : (j 0).val = n
  · have hm : ∀ a, (![n, 0, 0] : Fin 3 → ℕ) a ≤ (j a).val ∧ (j a).val < (![n, 0, 0] : Fin 3 → ℕ) a + S1x8192x64.size a := fun a => by
      match a with
      | 0 => exact ⟨he.ge, he ▸ Nat.lt_succ_self _⟩
      | 1 => exact ⟨Nat.zero_le _, lt_of_lt_of_eq b1 (Nat.zero_add _).symm⟩
      | 2 => exact ⟨Nat.zero_le _, lt_of_lt_of_eq b2 (Nat.zero_add _).symm⟩
    rw [dif_pos hm]
    unfold EFIN
    rw [he]
    refine congrArg (EX m c n) (funext fun a => Fin.ext ?_)
    match a with
    | 0 => exact Nat.sub_eq_zero_of_le he.le
    | 1 => rfl
    | 2 => rfl
  · rw [dif_neg (fun hm => he (by
      have := hm 0
      have h1 : n ≤ (j 0).val := this.1
      omega))]
    exact hX j (by omega)

/-- With all four slots filled the scratch holds all the exponentials. -/
theorem slots_full (c : Dev nD) (n : ℕ) (h : 4 ≤ n) (X : Vec F S4x8192x64 .bf16)
    (hX : ∀ j : S4x8192x64.Idx, (j 0).val < n → X j = EFIN m c j) : X = EFIN m c :=
  funext fun j => hX j (lt_of_lt_of_le (j 0).isLt h)

/-- The region invariant before position `n`: before the first point the scratch buffers at anything; afterwards the exponentials
    of the points done in their slots, the projected keys and values and the cast weights, the segment sums so far, and, once the
    second pass has begun, the table. -/
def PhiS (c : Dev nD) : ℕ → sProp 𝕄
  | 0 => Pipeline.ΦA spec0 c
  | n + 1 => iprop(iprop((∃ X, ⌜∀ j : S4x8192x64.Idx, (j 0).val < n + 1 → X j = EFIN m c j⌝ ∗ owns (c : Thread nD τ) scM0_0 fullShare X)
      ∗ owns (c : Thread nD τ) scM0_1 fullShare (KP m c)
      ∗ (∃ d, ⌜5 ≤ n + 1 → d = WTAB m c⌝ ∗ owns (c : Thread nD τ) scM0_2 fullShare d)
      ∗ owns (c : Thread nD τ) scM0_3 fullShare (VP m c)
      ∗ owns (c : Thread nD τ) scM0_4 fullShare (DEN m c (n + 1))
      ∗ owns (c : Thread nD τ) scM0_5 fullShare (WO m c)) ∗ (∃ r, prngReg c r))

theorem PhiS_zero (c : Dev nD) (n : ℕ) (hz : n = 0) : PhiS m c n = Pipeline.ΦA spec0 c := by
  subst hz; rfl

theorem PhiS_pos (c : Dev nD) (n : ℕ) (hz : n ≠ 0) :
    PhiS m c n = iprop(iprop((∃ X, ⌜∀ j : S4x8192x64.Idx, (j 0).val < n → X j = EFIN m c j⌝ ∗ owns (c : Thread nD τ) scM0_0 fullShare X)
      ∗ owns (c : Thread nD τ) scM0_1 fullShare (KP m c)
      ∗ (∃ d, ⌜5 ≤ n → d = WTAB m c⌝ ∗ owns (c : Thread nD τ) scM0_2 fullShare d)
      ∗ owns (c : Thread nD τ) scM0_3 fullShare (VP m c)
      ∗ owns (c : Thread nD τ) scM0_4 fullShare (DEN m c n)
      ∗ owns (c : Thread nD τ) scM0_5 fullShare (WO m c)) ∗ (∃ r, prngReg c r)) := by
  cases n with
  | zero => exact absurd rfl hz
  | succ n => rfl

/-! ## The pipeline's proof data -/

/-- The proof data of the pipeline on core `c`: the arrays as the region finds them; after the body at a point each input's
    buffer at its block and the output's at `OUT`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => OUT m c t
  Φ t := PhiS m c t.val
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = OUT m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! What each input's buffer is left with. -/

theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (cfg0.grid.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (cfg0.grid.coords t) = false from rfl, after0_8]
theorem leaves0_9 (c : Dev nD) (t : Fin cfg0.N) : (dats m 0 c).leavesExact 9 t = owns (c : Thread nD τ) (ms0_9 t) fullShare (iblk m c 9 t) := by
  unfold Dat.leavesExact; rw [show cfg0.idle 9 (cfg0.grid.coords t) = false from rfl, after0_9]
theorem leaves0_10 (c : Dev nD) (t : Fin cfg0.N) : (dats m 0 c).leavesExact 10 t = owns (c : Thread nD τ) (ms0_10 t) fullShare (iblk m c 10 t) := by
  unfold Dat.leavesExact; rw [show cfg0.idle 10 (cfg0.grid.coords t) = false from rfl, after0_10]
theorem leaves0_11 (c : Dev nD) (t : Fin cfg0.N) : (dats m 0 c).leavesExact 11 t = owns (c : Thread nD τ) (ms0_11 t) fullShare (iblk m c 11 t) := by
  unfold Dat.leavesExact; rw [show cfg0.idle 11 (cfg0.grid.coords t) = false from rfl, after0_11]

/-- The output's buffer is not written back during the first pass. -/
theorem flush0_12 : ∀ t : Fin cfg0.N, t.val < 4 → (cfg0.win 12).flush t = false :=
  (by decide +kernel : ∀ t : Fin grid0.N, t.val < 4 → win0_12.flush t = false)

/-- The output's buffer is left as found during the first pass, -/
theorem leaves0_12_idle (c : Dev nD) (t : Fin cfg0.N) (h : ¬ 4 ≤ t.val) :
    (dats m 0 c).leavesExact 12 t = iprop(∃ d, owns (c : Thread nD τ) (ms0_12 t) fullShare ((dats m 0 c).before 12 t d)) :=
  (dats m 0 c).leavesExact_idle 12 t (by
    have := mt (hcond0_3 t).mp h
    show (!(k0_cond4 (grid0.coords t) == 1#1)) = true
    simpa using this) (flush0_12 t (by omega))

/-- and holds the point's tile during the second. -/
theorem leaves0_12 (c : Dev nD) (t : Fin cfg0.N) (h : 4 ≤ t.val) :
    (dats m 0 c).leavesExact 12 t = owns (c : Thread nD τ) (ms0_12 t) fullShare (OUT m c t) := by
  unfold Dat.leavesExact
  rw [show cfg0.idle 12 (cfg0.grid.coords t) = false from by
    have := (hcond0_3 t).mpr h
    show (!(k0_cond4 (grid0.coords t) == 1#1)) = false
    simpa using this, after0_12]

end Cert.KernelIdeal.Body

end
-- ==== Proof.Body.RunA.lean ====
/-
  The body at the first point: the projected keys and values, the cast output weights and zero segment sums are stored, then the point's exponentials go into their slot and are added to the segment sums.
-/
module

public import proofs.«01_k».proof.Proof.Body.Setup
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the first point: the projected keys and values, the cast output weights and zero segment sums are stored, then the point's exponentials go into their slot and are added to the segment sums. -/
theorem runA (c : Dev nD) (i : grid0.Coords) (arg2 : Memref sig .tc .vmem S8192x64 .f32) (harg2 : arg2.IsWhole) (arg3 : Memref sig .tc .vmem S8192 .i32) (harg3 : arg3.IsWhole) (arg4 : Memref sig .tc .vmem S16x64 .f32) (harg4 : arg4.IsWhole) (arg5 : Memref sig .tc .vmem S16x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S64 .f32) (harg11 : arg11.IsWhole) (arg12 : Memref sig .tc .vmem S64x64 .f32) (harg12 : arg12.IsWhole) (arg13 : Memref sig .tc .vmem S64 .f32) (harg13 : arg13.IsWhole) (arg14 : Memref sig .tc .vmem S8192x64 .f32) (harg14 : arg14.IsWhole) (arg15 : Memref sig .tc .vmem S4x8192x64 .bf16) (harg15 : arg15.IsWhole) (arg16 : Memref sig .tc .vmem S16x64 .bf16) (harg16 : arg16.IsWhole) (arg17 : Memref sig .tc .vmem S16x64 .bf16) (harg17 : arg17.IsWhole) (arg18 : Memref sig .tc .vmem S16x64 .f32) (harg18 : arg18.IsWhole) (arg19 : Memref sig .tc .vmem S16x64 .f32) (harg19 : arg19.IsWhole) (arg20 : Memref sig .tc .vmem S64x64 .bf16) (harg20 : arg20.IsWhole) (hc0 : cond0_0 i) (hc1 : cond0_1 i) (hc2 : ¬cond0_2 i) (hc3 : ¬cond0_3 i) (n : ℕ) (hn : k0_off1 i = ![n, 0, 0])
    (x0 : Vec F S8192x64 .f32) (x1 : Vec F S8192 .i32) (x2 : Vec F S16x64 .f32) (x3 : Vec F S16x64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (xo : Vec F S8192x64 .f32) (xs0 : Vec F S4x8192x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo ∗ owns (c : Thread nD τ) arg15 fullShare xs0 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo ∗ owns (c : Thread nD τ) arg15 fullShare (VecWindow.put xs0 ![n, 0, 0] S1x8192x64.size (k0_pay3 x1 x0 x4 (k0_pay8 x2 x6 x7) x5)) ∗ owns (c : Thread nD τ) arg16 fullShare (k0_pay8 x2 x6 x7) ∗ (∃ d, owns (c : Thread nD τ) arg17 fullShare d) ∗ owns (c : Thread nD τ) arg18 fullShare (k0_pay9 x3 x8 x9) ∗ owns (c : Thread nD τ) arg19 fullShare (k0_pay4 x1 x0 x4 (k0_pay8 x2 x6 x7) x5 (k0_pay10 (F := F))) ∗ owns (c : Thread nD τ) arg20 fullShare (k0_pay7 x10)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__body_eq_skeleton]; unfold cc0__body_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fo, %hfo, H12⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg12.eq_unread hf10; obtain rfl := harg13.eq_unread hf11
  obtain rfl := harg14.eq_unread hfo; obtain rfl := harg15.eq_unread hfs0
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [HS0]
  · iexists _; isplitr; swap; · iexact HS0
    ipureintro; rw [View.read_writes_cons_put _ _ _ _ _ hn, View.writes_nil]; (try delta runA.sl.v28); (try delta runA.sl.v41); (try delta runA.sl.HS1_1); (try delta runA.sl.HS4_1); (repeat rw [View.readCov_full]); (repeat rw [View.readAt_full]); (repeat rw [Memref.IsWhole.read_unread])
  isplitl [HS1]
  · iexists _; isplitr; swap; · iexact HS1
    ipureintro; (try delta runA.sl.v28); (try delta runA.sl.v41); (try delta runA.sl.HS1_1); (try delta runA.sl.HS4_1); (repeat rw [View.readCov_full]); rw [View.read_writes_full]; (repeat rw [View.readAt_full]); (repeat rw [Memref.IsWhole.read_unread])
  isplitl [HS2]
  · iexists _, _; isplitr; swap; · iexact HS2
    ipureintro; rfl
  isplitl [HS3]
  · iexists _; isplitr; swap; · iexact HS3
    ipureintro; (try delta runA.sl.v28); (try delta runA.sl.v41); (try delta runA.sl.HS1_1); (try delta runA.sl.HS4_1); (repeat rw [View.readCov_full]); rw [View.read_writes_full]; (repeat rw [View.readAt_full]); (repeat rw [Memref.IsWhole.read_unread])
  isplitl [HS4]
  · iexists _; isplitr; swap; · iexact HS4
    ipureintro; rw [View.read_writes_full]; (try delta runA.sl.v28); (try delta runA.sl.v41); (try delta runA.sl.HS1_1); (try delta runA.sl.HS4_1); (repeat rw [View.readCov_full]); (repeat rw [View.readAt_full]); (repeat rw [Memref.IsWhole.read_unread])
  iexists _; isplitr; swap; · iexact HS5
  ipureintro; rw [View.read_writes_full]; (repeat rw [View.readAt_full]); (repeat rw [Memref.IsWhole.read_unread])

end Cert.KernelIdeal.Body

end
-- ==== Proof.Body.RunB.lean ====
/-
  The body at a point of the first pass but its first: the point's exponentials go into their slot and are added to the segment sums.
-/
module

public import proofs.«01_k».proof.Proof.Body.Setup
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a point of the first pass but its first: the point's exponentials go into their slot and are added to the segment sums. -/
theorem runB (c : Dev nD) (i : grid0.Coords) (arg2 : Memref sig .tc .vmem S8192x64 .f32) (harg2 : arg2.IsWhole) (arg3 : Memref sig .tc .vmem S8192 .i32) (harg3 : arg3.IsWhole) (arg4 : Memref sig .tc .vmem S16x64 .f32) (harg4 : arg4.IsWhole) (arg5 : Memref sig .tc .vmem S16x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S64 .f32) (harg11 : arg11.IsWhole) (arg12 : Memref sig .tc .vmem S64x64 .f32) (harg12 : arg12.IsWhole) (arg13 : Memref sig .tc .vmem S64 .f32) (harg13 : arg13.IsWhole) (arg14 : Memref sig .tc .vmem S8192x64 .f32) (harg14 : arg14.IsWhole) (arg15 : Memref sig .tc .vmem S4x8192x64 .bf16) (harg15 : arg15.IsWhole) (arg16 : Memref sig .tc .vmem S16x64 .bf16) (harg16 : arg16.IsWhole) (arg17 : Memref sig .tc .vmem S16x64 .bf16) (harg17 : arg17.IsWhole) (arg18 : Memref sig .tc .vmem S16x64 .f32) (harg18 : arg18.IsWhole) (arg19 : Memref sig .tc .vmem S16x64 .f32) (harg19 : arg19.IsWhole) (arg20 : Memref sig .tc .vmem S64x64 .bf16) (harg20 : arg20.IsWhole) (hc0 : ¬cond0_0 i) (hc1 : cond0_1 i) (hc2 : ¬cond0_2 i) (hc3 : ¬cond0_3 i) (n : ℕ) (hn : k0_off1 i = ![n, 0, 0])
    (x0 : Vec F S8192x64 .f32) (x1 : Vec F S8192 .i32) (x2 : Vec F S16x64 .f32) (x3 : Vec F S16x64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (xo : Vec F S8192x64 .f32) (xs0 : Vec F S4x8192x64 .bf16) (xs1 : Vec F S16x64 .bf16) (xs3 : Vec F S16x64 .f32) (xs4 : Vec F S16x64 .f32) (xs5 : Vec F S64x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo ∗ owns (c : Thread nD τ) arg15 fullShare xs0 ∗ owns (c : Thread nD τ) arg16 fullShare xs1 ∗ (∃ d, owns (c : Thread nD τ) arg17 fullShare d) ∗ owns (c : Thread nD τ) arg18 fullShare xs3 ∗ owns (c : Thread nD τ) arg19 fullShare xs4 ∗ owns (c : Thread nD τ) arg20 fullShare xs5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo ∗ owns (c : Thread nD τ) arg15 fullShare (VecWindow.put xs0 ![n, 0, 0] S1x8192x64.size (k0_pay3 x1 x0 x4 xs1 x5)) ∗ owns (c : Thread nD τ) arg16 fullShare xs1 ∗ (∃ d, owns (c : Thread nD τ) arg17 fullShare d) ∗ owns (c : Thread nD τ) arg18 fullShare xs3 ∗ owns (c : Thread nD τ) arg19 fullShare (k0_pay4 x1 x0 x4 xs1 x5 xs4) ∗ owns (c : Thread nD τ) arg20 fullShare xs5) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fo, %hfo, H12⟩, ⟨%fs0, %hfs0, HS0⟩, ⟨%fs1, %hfs1, HS1⟩, ⟨%ds2, %fs2, -, HS2⟩, ⟨%fs3, %hfs3, HS3⟩, ⟨%fs4, %hfs4, HS4⟩, ⟨%fs5, %hfs5, HS5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg12.eq_unread hf10; obtain rfl := harg13.eq_unread hf11
  obtain rfl := harg14.eq_unread hfo; obtain rfl := harg15.eq_unread hfs0; obtain rfl := harg16.eq_unread hfs1
  obtain rfl := harg18.eq_unread hfs3; obtain rfl := harg19.eq_unread hfs4; obtain rfl := harg20.eq_unread hfs5
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [HS0]
  · iexists _; isplitr; swap; · iexact HS0
    ipureintro; rw [View.read_writes_cons_put _ _ _ _ _ hn, View.writes_nil]; (repeat rw [View.readAt_full]); (repeat rw [Memref.IsWhole.read_unread])
  isplitl [HS1]
  · iexists _; isplitr; · ipureintro; exact harg16.read_unread _
    iexact HS1
  isplitl [HS2]
  · iexists _, _; isplitr; swap; · iexact HS2
    ipureintro; rfl
  isplitl [HS3]
  · iexists _; isplitr; · ipureintro; exact harg18.read_unread _
    iexact HS3
  isplitl [HS4]
  · iexists _; isplitr; swap; · iexact HS4
    ipureintro; rw [View.read_writes_full]; (repeat rw [View.readAt_full]); (repeat rw [Memref.IsWhole.read_unread])
  iexists _; isplitr; · ipureintro; exact harg20.read_unread _
  iexact HS5

end Cert.KernelIdeal.Body

end
-- ==== Proof.Body.RunC.lean ====
/-
  The body at the first point of the second pass: the table of values over segment sums is stored, then the point's output tile is written from its slot of exponentials.
-/
module

public import proofs.«01_k».proof.Proof.Body.Setup
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the first point of the second pass: the table of values over segment sums is stored, then the point's output tile is written from its slot of exponentials. -/
theorem runC (c : Dev nD) (i : grid0.Coords) (arg2 : Memref sig .tc .vmem S8192x64 .f32) (harg2 : arg2.IsWhole) (arg3 : Memref sig .tc .vmem S8192 .i32) (harg3 : arg3.IsWhole) (arg4 : Memref sig .tc .vmem S16x64 .f32) (harg4 : arg4.IsWhole) (arg5 : Memref sig .tc .vmem S16x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S64 .f32) (harg11 : arg11.IsWhole) (arg12 : Memref sig .tc .vmem S64x64 .f32) (harg12 : arg12.IsWhole) (arg13 : Memref sig .tc .vmem S64 .f32) (harg13 : arg13.IsWhole) (arg14 : Memref sig .tc .vmem S8192x64 .f32) (harg14 : arg14.IsWhole) (arg15 : Memref sig .tc .vmem S4x8192x64 .bf16) (harg15 : arg15.IsWhole) (arg16 : Memref sig .tc .vmem S16x64 .bf16) (harg16 : arg16.IsWhole) (arg17 : Memref sig .tc .vmem S16x64 .bf16) (harg17 : arg17.IsWhole) (arg18 : Memref sig .tc .vmem S16x64 .f32) (harg18 : arg18.IsWhole) (arg19 : Memref sig .tc .vmem S16x64 .f32) (harg19 : arg19.IsWhole) (arg20 : Memref sig .tc .vmem S64x64 .bf16) (harg20 : arg20.IsWhole) (hc0 : ¬cond0_0 i) (hc1 : ¬cond0_1 i) (hc2 : cond0_2 i) (hc3 : cond0_3 i) (n : ℕ) (hn : k0_off2 i = ![n, 0, 0]) (inb : ∀ a, (![n, 0, 0] : Fin 3 → ℕ) a + S1x8192x64.size a ≤ S4x8192x64.size a)
    (x0 : Vec F S8192x64 .f32) (x1 : Vec F S8192 .i32) (x2 : Vec F S16x64 .f32) (x3 : Vec F S16x64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (xs0 : Vec F S4x8192x64 .bf16) (xs1 : Vec F S16x64 .bf16) (xs3 : Vec F S16x64 .f32) (xs4 : Vec F S16x64 .f32) (xs5 : Vec F S64x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0 ∗ owns (c : Thread nD τ) arg16 fullShare xs1 ∗ (∃ d, owns (c : Thread nD τ) arg17 fullShare d) ∗ owns (c : Thread nD τ) arg18 fullShare xs3 ∗ owns (c : Thread nD τ) arg19 fullShare xs4 ∗ owns (c : Thread nD τ) arg20 fullShare xs5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (k0_pay6 x1 (k0_pay5 xs4 xs3) (VecWindow.window xs0 ![n, 0, 0] S1x8192x64.size inb) xs5 x11) ∗ owns (c : Thread nD τ) arg15 fullShare xs0 ∗ owns (c : Thread nD τ) arg16 fullShare xs1 ∗ owns (c : Thread nD τ) arg17 fullShare (k0_pay5 xs4 xs3) ∗ owns (c : Thread nD τ) arg18 fullShare xs3 ∗ owns (c : Thread nD τ) arg19 fullShare xs4 ∗ owns (c : Thread nD τ) arg20 fullShare xs5) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, ⟨%ds2, %fs2, -, HS2⟩, ⟨%fs3, %hfs3, HS3⟩, ⟨%fs4, %hfs4, HS4⟩, ⟨%fs5, %hfs5, HS5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg12.eq_unread hf10; obtain rfl := harg13.eq_unread hf11
  obtain rfl := harg15.eq_unread hfs0; obtain rfl := harg16.eq_unread hfs1; obtain rfl := harg18.eq_unread hfs3
  obtain rfl := harg19.eq_unread hfs4; obtain rfl := harg20.eq_unread hfs5
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; swap; · iexact H12
    ipureintro; rw [View.read_writes_full]; rw [View.readAt_unit (s := S4x8192x64) (size := S1x8192x64.size) _ _ _ hn inb]; (try delta runC.sl.v25); (try delta runC.sl.HS2_1); (repeat rw [View.readCov_full]); (repeat rw [View.readAt_full]); (repeat rw [Memref.IsWhole.read_unread])
  isplitl [HS0]
  · iexists _; isplitr; · ipureintro; exact harg15.read_unread _
    iexact HS0
  isplitl [HS1]
  · iexists _; isplitr; · ipureintro; exact harg16.read_unread _
    iexact HS1
  isplitl [HS2]
  · iexists _; isplitr; swap; · iexact HS2
    ipureintro; (try delta runC.sl.v25); (try delta runC.sl.HS2_1); (repeat rw [View.readCov_full]); rw [View.read_writes_full]; (repeat rw [View.readAt_full]); (repeat rw [Memref.IsWhole.read_unread])
  isplitl [HS3]
  · iexists _; isplitr; · ipureintro; exact harg18.read_unread _
    iexact HS3
  isplitl [HS4]
  · iexists _; isplitr; · ipureintro; exact harg19.read_unread _
    iexact HS4
  iexists _; isplitr; · ipureintro; exact harg20.read_unread _
  iexact HS5

end Cert.KernelIdeal.Body

end
-- ==== Proof.Body.RunD.lean ====
/-
  The body at a later point of the second pass: the point's output tile is written from the table and its slot of exponentials.
-/
module

public import proofs.«01_k».proof.Proof.Body.Setup
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a later point of the second pass: the point's output tile is written from the table and its slot of exponentials. -/
theorem runD (c : Dev nD) (i : grid0.Coords) (arg2 : Memref sig .tc .vmem S8192x64 .f32) (harg2 : arg2.IsWhole) (arg3 : Memref sig .tc .vmem S8192 .i32) (harg3 : arg3.IsWhole) (arg4 : Memref sig .tc .vmem S16x64 .f32) (harg4 : arg4.IsWhole) (arg5 : Memref sig .tc .vmem S16x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S64 .f32) (harg11 : arg11.IsWhole) (arg12 : Memref sig .tc .vmem S64x64 .f32) (harg12 : arg12.IsWhole) (arg13 : Memref sig .tc .vmem S64 .f32) (harg13 : arg13.IsWhole) (arg14 : Memref sig .tc .vmem S8192x64 .f32) (harg14 : arg14.IsWhole) (arg15 : Memref sig .tc .vmem S4x8192x64 .bf16) (harg15 : arg15.IsWhole) (arg16 : Memref sig .tc .vmem S16x64 .bf16) (harg16 : arg16.IsWhole) (arg17 : Memref sig .tc .vmem S16x64 .bf16) (harg17 : arg17.IsWhole) (arg18 : Memref sig .tc .vmem S16x64 .f32) (harg18 : arg18.IsWhole) (arg19 : Memref sig .tc .vmem S16x64 .f32) (harg19 : arg19.IsWhole) (arg20 : Memref sig .tc .vmem S64x64 .bf16) (harg20 : arg20.IsWhole) (hc0 : ¬cond0_0 i) (hc1 : ¬cond0_1 i) (hc2 : ¬cond0_2 i) (hc3 : cond0_3 i) (n : ℕ) (hn : k0_off2 i = ![n, 0, 0]) (inb : ∀ a, (![n, 0, 0] : Fin 3 → ℕ) a + S1x8192x64.size a ≤ S4x8192x64.size a)
    (x0 : Vec F S8192x64 .f32) (x1 : Vec F S8192 .i32) (x2 : Vec F S16x64 .f32) (x3 : Vec F S16x64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (xs0 : Vec F S4x8192x64 .bf16) (xs1 : Vec F S16x64 .bf16) (xs2 : Vec F S16x64 .bf16) (xs3 : Vec F S16x64 .f32) (xs4 : Vec F S16x64 .f32) (xs5 : Vec F S64x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0 ∗ owns (c : Thread nD τ) arg16 fullShare xs1 ∗ owns (c : Thread nD τ) arg17 fullShare xs2 ∗ owns (c : Thread nD τ) arg18 fullShare xs3 ∗ owns (c : Thread nD τ) arg19 fullShare xs4 ∗ owns (c : Thread nD τ) arg20 fullShare xs5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (k0_pay6 x1 xs2 (VecWindow.window xs0 ![n, 0, 0] S1x8192x64.size inb) xs5 x11) ∗ owns (c : Thread nD τ) arg15 fullShare xs0 ∗ owns (c : Thread nD τ) arg16 fullShare xs1 ∗ owns (c : Thread nD τ) arg17 fullShare xs2 ∗ owns (c : Thread nD τ) arg18 fullShare xs3 ∗ owns (c : Thread nD τ) arg19 fullShare xs4 ∗ owns (c : Thread nD τ) arg20 fullShare xs5) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg12.eq_unread hf10; obtain rfl := harg13.eq_unread hf11
  obtain rfl := harg15.eq_unread hfs0; obtain rfl := harg16.eq_unread hfs1; obtain rfl := harg17.eq_unread hfs2
  obtain rfl := harg18.eq_unread hfs3; obtain rfl := harg19.eq_unread hfs4; obtain rfl := harg20.eq_unread hfs5
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; swap; · iexact H12
    ipureintro; rw [View.read_writes_full]; rw [View.readAt_unit (s := S4x8192x64) (size := S1x8192x64.size) _ _ _ hn inb]; (repeat rw [View.readAt_full]); (repeat rw [Memref.IsWhole.read_unread])
  isplitl [HS0]
  · iexists _; isplitr; · ipureintro; exact harg15.read_unread _
    iexact HS0
  isplitl [HS1]
  · iexists _; isplitr; · ipureintro; exact harg16.read_unread _
    iexact HS1
  isplitl [HS2]
  · iexists _; isplitr; · ipureintro; exact harg17.read_unread _
    iexact HS2
  isplitl [HS3]
  · iexists _; isplitr; · ipureintro; exact harg18.read_unread _
    iexact HS3
  isplitl [HS4]
  · iexists _; isplitr; · ipureintro; exact harg19.read_unread _
    iexact HS4
  iexists _; isplitr; · ipureintro; exact harg20.read_unread _
  iexact HS5

end Cert.KernelIdeal.Body

end
-- ==== Proof.Body.Sound.lean ====
/-
  The kernel's run: the body at every point, the launch, and the frame.
-/
module

public import proofs.«01_k».proof.Proof.Body.Data
public import proofs.«01_k».proof.Proof.Body.RunA
public import proofs.«01_k».proof.Proof.Body.RunB
public import proofs.«01_k».proof.Proof.Body.RunC
public import proofs.«01_k».proof.Proof.Body.RunD
public import Idealize.ShloMosaic.Lib.Claim
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 25600000 in
/-- The body at any point: the closed forms of its branches say which of the four cases the point is in, the invariant hands the
    body the scratch buffers, and the case's run gives them back for the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [Phi_eq, Phi_eq, Fin.val_castSucc, Fin.val_succ, PhiS_pos m c (t.val + 1) (Nat.succ_ne_zero _)]
  rw [leaves0_0, leaves0_1, leaves0_2, leaves0_3, leaves0_4, leaves0_5, leaves0_6, leaves0_7, leaves0_8, leaves0_9, leaves0_10, leaves0_11]
  have hN : t.val < 8 := lt_of_lt_of_eq t.isLt (show cfg0.N = 8 from N_0)
  have hpt : pt t.val = t := pt_val t
  by_cases h1 : t.val < 4
  · have hm4 : t.val % 4 = t.val := Nat.mod_eq_of_lt h1
    have hoff : k0_off1 (grid0.coords t) = ![t.val, 0, 0] := by rw [off1_eq, hm4]
    rw [leaves0_12_idle m c t (by omega)]
    rw [DEN_succ m c t.val h1, hpt]
    by_cases h0 : t.val = 0
    · have ht0 : t = pt 0 := by rw [← h0, hpt]
      rw [PhiS_zero m c _ h0, PhiA0_eq]
      iintro ⟨⟨⟨⟨%s0, HS0⟩, ⟨%s1, HS1⟩, ⟨%s2, HS2⟩, ⟨%s3, HS3⟩, ⟨%s4, HS4⟩, ⟨%s5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (runA c (grid0.coords t) _ _ _ _ _ _ _ _ _ _ _ _ _ _ _ _ _ _ _ _ _ _ _ _ _ _ _ _ _ _ _ _ _ _ _ _ _ _ ((hcond0_0 t).mpr (by omega)) ((hcond0_1 t).mpr h1) (fun h => absurd ((hcond0_2 t).mp h) (by omega)) (fun h => absurd ((hcond0_3 t).mp h) (by omega)) t.val hoff (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) s0 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iintro ⟨H0, H1, H2, H3, H4, H5, H6, H7, H8, H9, H10, H11, H12, HS0, HS1, ⟨%e2, HS2⟩, HS3, HS4, HS5⟩
      isplitl [HS0 HS1 HS2 HS3 HS4 HS5 Hg]
      · isplitl [HS0 HS1 HS2 HS3 HS4 HS5]
        · isplitl [HS0]
          · iexists _; isplitr; swap; · iexact HS0
            ipureintro; exact fun j hj => (congrFun (congrArg _ (by unfold EX KP; rw [hpt, ← ht0])) j).trans (put_slot m c t.val h1 s0 (fun j hj => absurd hj (by omega)) j hj)
          isplitl [HS1]
          · unfold KP; rw [← ht0]; iexact HS1
          isplitl [HS2]
          · iexists _; isplitr; swap; · iexact HS2
            ipureintro; intro h; omega
          isplitl [HS3]
          · unfold VP; rw [← ht0]; iexact HS3
          isplitl [HS4]
          · unfold KP; rw [← ht0, h0]; iexact HS4
          unfold WO; rw [← ht0]; iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    · rw [PhiS_pos m c _ h0]
      iintro ⟨⟨⟨⟨%X, %hX, HS0⟩, HS1, ⟨%s2, %hs2, HS2⟩, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (runB c (grid0.coords t) _ _ _ _ _ _ _ _ _ _ _ _ _ _ _ _ _ _ _ _ _ _ _ _ _ _ _ _ _ _ _ _ _ _ _ _ _ _ (fun h => absurd ((hcond0_0 t).mp h) (by omega)) ((hcond0_1 t).mpr h1) (fun h => absurd ((hcond0_2 t).mp h) (by omega)) (fun h => absurd ((hcond0_3 t).mp h) (by omega)) t.val hoff (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) X (KP m c) (VP m c) (DEN m c t.val) (WO m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      isplitl [HS2]; · iexists _; iexact HS2
      isplitl [HS3]; · iexact HS3
      isplitl [HS4]; · iexact HS4
      isplitl [HS5]; · iexact HS5
      iintro ⟨H0, H1, H2, H3, H4, H5, H6, H7, H8, H9, H10, H11, H12, HS0, HS1, ⟨%e2, HS2⟩, HS3, HS4, HS5⟩
      isplitl [HS0 HS1 HS2 HS3 HS4 HS5 Hg]
      · isplitl [HS0 HS1 HS2 HS3 HS4 HS5]
        · isplitl [HS0]
          · iexists _; isplitr; swap; · iexact HS0
            ipureintro; exact fun j hj => (congrFun (congrArg _ (by unfold EX; rw [hpt])) j).trans (put_slot m c t.val h1 X hX j hj)
          isplitl [HS1]
          · iexact HS1
          isplitl [HS2]
          · iexists _; isplitr; swap; · iexact HS2
            ipureintro; intro h; omega
          isplitl [HS3]
          · iexact HS3
          isplitl [HS4]
          · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
  · have hoff : k0_off2 (grid0.coords t) = ![t.val % 4, 0, 0] := off2_eq t
    rw [leaves0_12 m c t (by omega)]
    rw [PhiS_pos m c t.val (by omega)]
    rw [DEN_late m c (t.val + 1) (by omega), DEN_late m c t.val (by omega)]
    by_cases h2 : t.val = 4
    · iintro ⟨⟨⟨⟨%X, %hX, HS0⟩, HS1, ⟨%s2, %hs2, HS2⟩, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      obtain rfl := slots_full m c t.val (by omega) X hX
      iapply (runC c (grid0.coords t) _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) h1) ((hcond0_2 t).mpr (by omega)) ((hcond0_3 t).mpr (by omega)) (t.val % 4) hoff (slot_inb t.val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (EFIN m c) (KP m c) (VP m c) (DEN m c 4) (WO m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      isplitl [HS2]; · iexists _; iexact HS2
      isplitl [HS3]; · iexact HS3
      isplitl [HS4]; · iexact HS4
      isplitl [HS5]; · iexact HS5
      iintro ⟨H0, H1, H2, H3, H4, H5, H6, H7, H8, H9, H10, H11, H12, HS0, HS1, HS2, HS3, HS4, HS5⟩
      isplitl [HS0 HS1 HS2 HS3 HS4 HS5 Hg]
      · isplitl [HS0 HS1 HS2 HS3 HS4 HS5]
        · isplitl [HS0]
          · iexists _; isplitr; swap; · iexact HS0
            ipureintro; exact fun j _ => rfl
          isplitl [HS1]
          · iexact HS1
          isplitl [HS2]
          · iexists _; isplitr; swap; · iexact HS2
            ipureintro; exact fun _ => rfl
          isplitl [HS3]
          · iexact HS3
          isplitl [HS4]
          · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iintro ⟨⟨⟨⟨%X, %hX, HS0⟩, HS1, ⟨%s2, %hs2, HS2⟩, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      obtain rfl := slots_full m c t.val (by omega) X hX
      obtain rfl := hs2 (by omega)
      iapply (runD c (grid0.coords t) _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) h1) (fun h => absurd ((hcond0_2 t).mp h) (by omega)) ((hcond0_3 t).mpr (by omega)) (t.val % 4) hoff (slot_inb t.val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (EFIN m c) (KP m c) (WTAB m c) (VP m c) (DEN m c 4) (WO m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, HS0, HS1, HS2, HS3, HS4, HS5⟩
      isplitl [HS0 HS1 HS2 HS3 HS4 HS5 Hg]
      · isplitl [HS0 HS1 HS2 HS3 HS4 HS5]
        · isplitl [HS0]
          · iexists _; isplitr; swap; · iexact HS0
            ipureintro; exact fun j _ => rfl
          isplitl [HS1]
          · iexact HS1
          isplitl [HS2]
          · iexists _; isplitr; swap; · iexact HS2
            ipureintro; exact fun _ => rfl
          isplitl [HS3]
          · iexact HS3
          isplitl [HS4]
          · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 :=
  Idealize.SL.BI.Entails.refl _

/-- After the last point the scratch buffers are given back. -/
theorem hout (c : Dev nD) : (dats m 0 c).Φ (Fin.last cfg0.N) ⊢ Pipeline.ΦA spec0 c := by
  have hN : cfg0.N = 8 := N_0
  rw [Phi_eq, Fin.val_last, PhiS_pos m c _ (by omega), PhiA0_eq]
  iintro ⟨⟨⟨%X, %hX, HS0⟩, HS1, ⟨%d2, %hd2, HS2⟩, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

set_option backward.isDefEq.respectTransparency.types false in
/-- The launch: every array at what the proof data says of it, and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The kernel runs to the end with its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.FrameKernel.lean ====
/-
  The frame of the kernel over words: with every named constant read as its printed word, the idealized program is the
  kernel itself, so the frame, proved for every reading of floats, is the kernel's too.
-/
module

public import proofs.«01_k».proof.Defs
public import proofs.«01_k».proof.Proof.Gen.Kernel
public import proofs.«01_k».proof.Proof.Body.Sound

@[expose] public section

noncomputable section

namespace Cert.Proof

open Idealize.ShloMosaic Idealize.SL.Sem

/-- A named constant read as the word that is printed for it. -/
abbrev printedWord : Named Bits where
  named _ _ {φ} bits := FloatOps.ofBits φ bits

attribute [local instance] printedWord

/-- The two bodies are one. -/
theorem body_eq : @Cert.Kernel.cc0__body Bits _ _ = @Cert.KernelIdeal.cc0__body Bits _ _ _ := rfl

/-- The two body tables are one. -/
theorem defs₀_eq : Cert.Kernel.defs₀ (F := Bits) = Cert.KernelIdeal.defs₀ (F := Bits) := by
  unfold Cert.Kernel.defs₀ Cert.KernelIdeal.defs₀
  refine congrArg _ (funext fun l => ?_)
  match l with
  | 0 => rfl

/-- The two programs' definitions are one. -/
theorem defs_eq : Cert.Kernel.defs (F := Bits) = Cert.KernelIdeal.defs (F := Bits) :=
  congrArg (Pipeline.defs (Cert.Kernel.pcfgs (F := Bits))) defs₀_eq

/-- The kernel runs to the end with its arguments unchanged and every semaphore counter at zero. -/
theorem frame_kernel : Cert.quiescent_Kernel := fun m ρ _ => by
  rw [defs_eq]
  exact Cert.KernelIdeal.Body.frame (F := Bits) m ρ

end Cert.Proof

end
-- ==== Proof.Frames.lean ====
/-
  The frames: every program runs to the end with its arguments unchanged and its semaphore counters at zero.
-/
module

public import proofs.«01_k».proof.Defs
public import proofs.«01_k».proof.Proof.Gen.Kernel
public import proofs.«01_k».proof.Proof.Gen.ReferenceIdeal.Run
public import proofs.«01_k».proof.Proof.Body.Sound
public import Idealize.ShloMosaic.Lib.Quiescent

@[expose] public section

noncomputable section

namespace Cert.Proof

open Idealize.ShloMosaic Idealize.SL.Sem

/-- The side conditions of the precondition's operations. -/
instance preFacts : Cert.Pre_in_range.Facts where
  bcast_S_S32768 := by decide
  bcast_S_S32768x64 := by decide
  bcast_S_S16x64 := by decide
  bcast_S_S64x64 := by decide
  bcast_S_S64 := by decide

/-- The idealized kernel's frame. -/
theorem frame_kernelIdeal : Cert.quiescent_KernelIdeal := fun m ρ _ => Cert.KernelIdeal.Body.frame m ρ

/-- The same for the arguments of the value claim. -/
theorem frame_kernelIdeal_pre : Cert.quiescent_KernelIdeal_pre_in_range := fun m ρ _ => Cert.KernelIdeal.Body.frame m ρ

/-- The reference's frame: it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same for the arguments of the value claim. -/
theorem frame_referenceIdeal_pre : Cert.quiescent_ReferenceIdeal_pre_in_range := fun m ρ _ => frame_referenceIdeal m ρ trivial

/-- The named constant is the reciprocal root that its table says. -/
theorem preserves : Cert.preserves_Kernel_KernelIdeal :=
  IdealRules.named_const.statement Cert.KernelIdeal.κ "rs" .f32 0x3EB504F3#32 (((Real.sqrt 8)⁻¹ : ℝ) : EReal) rfl

end Cert.Proof

end
-- ==== Proof.Value.Spec.lean ====
/-
  The quantities both programs are stated in: a linear projection at an index, the segment a row belongs to, and the
  words of the constants as extended reals.
-/
module

public import Idealize.ShloMosaic.PureOps.Ideal.Laws
public import Idealize.ShloMosaic.Lib.IdealHost
public import Idealize.ShloMosaic.Lib.Pointwise.Index

@[expose] public section

noncomputable section

namespace Cert.Spec

open Idealize.ShloMosaic

/-- Row `r`, column `j` of `x · Wᵀ + b`. -/
def proj {R : ℕ} (x : (⟨2, ![R, 64]⟩ : Shape).Idx → EReal) (W : (⟨2, ![64, 64]⟩ : Shape).Idx → EReal)
    (b : (⟨1, ![64]⟩ : Shape).Idx → EReal) (r : Fin R) (j : Fin 64) : EReal :=
  (∑ k : Fin 64, x (ix2 r k) * W (ix2 j k)) + b (ix1 j)

/-- The segment row `n` belongs to. -/
def seg (b : (⟨1, ![32768]⟩ : Shape).Idx → BitVec 32) (n : Fin 32768) : Fin 16 :=
  ⟨(b (ix1 n)).toNat % 16, Nat.mod_lt _ (by decide)⟩

/-- The rows of segment `s`. -/
def members (b : (⟨1, ![32768]⟩ : Shape).Idx → BitVec 32) (s : Fin 16) : Finset (Fin 32768) :=
  Finset.univ.filter fun n => seg b n = s

/-- The column of a row of 64 that head `h` and place `d` name. -/
def col (h d : Fin 8) : Fin 64 := ⟨h.val * 8 + d.val, by omega⟩

/-- The head of a column. -/
def hd (j : Fin 64) : Fin 8 := ⟨j.val / 8, by omega⟩

/-- The place of a column within its head. -/
def pl (j : Fin 64) : Fin 8 := ⟨j.val % 8, by omega⟩

theorem col_hd_pl (j : Fin 64) : col (hd j) (pl j) = j := by
  apply Fin.ext
  show j.val / 8 * 8 + j.val % 8 = j.val
  omega

/-- A word below sixteen is its own wrapped index. -/
theorem wrap_word (w : BitVec 32) (hw : w.toNat < 16) :
    Scalar.select (IntOp.cmpi .slt w 0#32) (IntOp.addi w 16#32) w = w := by
  have h : w.slt 0#32 = false := by
    rw [BitVec.slt_eq_decide, decide_eq_false_iff_not, BitVec.toInt_eq_toNat_of_lt (by omega)]
    simp
  simp [Scalar.select, IntOp.cmpi, h]

/-- A word below sixteen read signed. -/
theorem toInt_word (w : BitVec 32) (hw : w.toNat < 16) : w.toInt = ((w.toNat % 16 : ℕ) : Int) := by
  rw [BitVec.toInt_eq_toNat_of_lt (by omega), Nat.mod_eq_of_lt hw]

/-- A word below sixteen equals a segment's number exactly when it names that segment. -/
theorem word_eq_iff (w : BitVec 32) (hw : w.toNat < 16) (s : Fin 16) :
    w = BitVec.ofNat 32 s.val ↔ (⟨w.toNat % 16, Nat.mod_lt _ (by decide)⟩ : Fin 16) = s := by
  rw [Fin.ext_iff, ← BitVec.toNat_inj, BitVec.toNat_ofNat, Nat.mod_eq_of_lt (by omega)]
  show w.toNat = s.val ↔ w.toNat % 16 = s.val
  rw [Nat.mod_eq_of_lt hw]

theorem ofBits_eight : Ideal.ofBits .f32 0x41000000#32 = ((8 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

theorem ofBits_inf : Ideal.ofBits .f32 0x7F800000#32 = (⊤ : EReal) := by
  simp [Ideal.ofBits, Ideal.ieee]

theorem sqrt_eight : Ideal.sqrt ((8 : ℝ) : EReal) = ((Real.sqrt 8 : ℝ) : EReal) := by
  rw [Ideal.sqrt_coe, if_neg (by norm_num)]

end Cert.Spec

end
-- ==== Proof.Value.KerPay.lean ====
/-
  The idealized kernel's payloads read at an index.
-/
module

public import proofs.«01_k».proof.Proof.Gen.KernelIdeal.Skeleton
public import proofs.«01_k».proof.Proof.Value.Spec
public import Idealize.ShloMosaic.Lib.Pointwise

@[expose] public section

set_option maxRecDepth 16384

noncomputable section

namespace Cert.KernelIdeal.At

open Cert.KernelIdeal Cert.KernelIdeal.Gen Cert.Spec Idealize.ShloMosaic

/-- The segment row `n` of a tile belongs to. -/
def tseg (b : S8192.Idx → BitVec 32) (n : Fin 8192) : Fin 16 := ⟨(b (ix1 n)).toNat % 16, Nat.mod_lt _ (by decide)⟩

/-- Every index word of a tile is below sixteen. -/
def TInRange (b : S8192.Idx → BitVec 32) : Prop := ∀ n : Fin 8192, (b (ix1 n)).toNat < 16

/-- One entry of the one-hot matrix: one where the row's word names the segment, zero elsewhere. -/
theorem onehot_entry (w : BitVec 32) (hw : w.toNat < 16) (s : Fin 16) :
    FloatOps.sitofp (F := Ideal) FTy.f32 (BitVec.setWidth 32 (IntOp.cmpi CmpIPredicate.eq w (BitVec.ofNat 32 s.val)))
      = if (⟨w.toNat % 16, Nat.mod_lt _ (by decide)⟩ : Fin 16) = s then (1 : EReal) else 0 := by
  have h := word_eq_iff w hw s
  show (((BitVec.setWidth 32 (BitVec.ofBool (w == BitVec.ofNat 32 s.val))).toInt : ℝ) : EReal) = _
  by_cases hs : (⟨w.toNat % 16, Nat.mod_lt _ (by decide)⟩ : Fin 16) = s
  · rw [if_pos hs, beq_iff_eq.mpr (h.mpr hs)]
    simp
  · rw [if_neg hs, beq_eq_false_iff_ne.mpr (fun e => hs (h.mp e))]
    simp

/-- A one-hot row picks its entry. -/
theorem sum_pick (t : Fin 16) (g : Fin 16 → EReal) : ∑ s, (if t = s then (1 : EReal) else 0) * g s = g t := by
  simp

/-- A one-hot column adds up the rows of its segment. -/
theorem sum_members (t : Fin 8192 → Fin 16) (s : Fin 16) (g : Fin 8192 → EReal) :
    ∑ n, (if t n = s then (1 : EReal) else 0) * g n = ∑ n ∈ Finset.univ.filter (fun n => t n = s), g n := by
  rw [Finset.sum_filter]
  exact Finset.sum_congr rfl fun n _ => by split <;> simp

theorem pay1_at (b : Vec Ideal S8192 .i32) (hb : TInRange b) (s : Fin 16) (n : Fin 8192) :
    k0_pay1 (F := Ideal) b (ix2 s n) = if tseg b n = s then (1 : EReal) else 0 := by
  pointwise [k0_pay1]
  exact onehot_entry _ (hb n) s

/-- A tile's exponentials. -/
def tex (b : S8192.Idx → BitVec 32) (q : S8192x64.Idx → EReal) (W : S64x64.Idx → EReal) (kp : S16x64.Idx → EReal)
    (bq : S64.Idx → EReal) (n : Fin 8192) (j : Fin 64) : EReal :=
  Ideal.exp (proj q W bq n j * kp (ix2 (tseg b n) j))

theorem pay2_at (b : Vec Ideal S8192 .i32) (hb : TInRange b) (q : Vec Ideal S8192x64 .f32) (W : Vec Ideal S64x64 .f32)
    (kp : Vec Ideal S16x64 .bf16) (bq : Vec Ideal S64 .f32) (n : Fin 8192) (j : Fin 64) :
    k0_pay2 (F := Ideal) b q W kp bq (ix2 n j) = tex b q W kp bq n j := by
  pointwise [k0_pay2]
  unfold tex proj
  refine congrArg Ideal.exp (congrArg _ ?_)
  exact (Finset.sum_congr rfl fun s _ => by rw [pay1_at b hb]).trans (sum_pick (tseg b n) fun s => kp (ix2 s j))

theorem pay3_at (b : Vec Ideal S8192 .i32) (hb : TInRange b) (q : Vec Ideal S8192x64 .f32) (W : Vec Ideal S64x64 .f32)
    (kp : Vec Ideal S16x64 .bf16) (bq : Vec Ideal S64 .f32) (z : Fin 1) (n : Fin 8192) (j : Fin 64) :
    k0_pay3 (F := Ideal) b q W kp bq (ix3 z n j) = tex b q W kp bq n j := by
  pointwise [k0_pay3]
  exact pay2_at b hb q W kp bq n j

theorem pay4_at (b : Vec Ideal S8192 .i32) (hb : TInRange b) (q : Vec Ideal S8192x64 .f32) (W : Vec Ideal S64x64 .f32)
    (kp : Vec Ideal S16x64 .bf16) (bq : Vec Ideal S64 .f32) (den : Vec Ideal S16x64 .f32) (s : Fin 16) (j : Fin 64) :
    k0_pay4 (F := Ideal) b q W kp bq den (ix2 s j)
      = den (ix2 s j) + ∑ n ∈ Finset.univ.filter (fun n => tseg b n = s), tex b q W kp bq n j := by
  pointwise [k0_pay4]
  refine congrArg _ ?_
  exact (Finset.sum_congr rfl fun n _ => by rw [pay1_at b hb, pay2_at b hb]).trans
    (sum_members (tseg b) s fun n => tex b q W kp bq n j)

theorem pay5_at (den vp : Vec Ideal S16x64 .f32) (s : Fin 16) (j : Fin 64) :
    k0_pay5 (F := Ideal) den vp (ix2 s j)
      = Ideal.div (vp (ix2 s j)) (if den (ix2 s j) = 0 then 1 else den (ix2 s j)) := by
  pointwise [k0_pay5]

theorem pay6_at (b : Vec Ideal S8192 .i32) (hb : TInRange b) (w : Vec Ideal S16x64 .bf16) (e : Vec Ideal S1x8192x64 .bf16)
    (Wo : Vec Ideal S64x64 .bf16) (bo : Vec Ideal S64 .f32) (n : Fin 8192) (f : Fin 64) :
    k0_pay6 (F := Ideal) b w e Wo bo (ix2 n f)
      = (∑ j : Fin 64, (e (ix3 0 n j) * w (ix2 (tseg b n) j)) * Wo (ix2 f j)) + bo (ix1 f) := by
  pointwise [k0_pay6]
  refine congrArg (· + _) (Finset.sum_congr rfl fun j _ => congrArg (· * _) (congrArg _ ?_))
  exact (Finset.sum_congr rfl fun s _ => by rw [onehot_entry _ (hb n) s]; rfl).trans (sum_pick (tseg b n) fun s => w (ix2 s j))

theorem pay7_at (Wo : Vec Ideal S64x64 .f32) (f j : Fin 64) : k0_pay7 (F := Ideal) Wo (ix2 f j) = Wo (ix2 f j) := by
  pointwise [k0_pay7]

theorem pay8_at (k : Vec Ideal S16x64 .f32) (W : Vec Ideal S64x64 .f32) (bk : Vec Ideal S64 .f32) (s : Fin 16)
    (j : Fin 64) :
    k0_pay8 (F := Ideal) k W bk (ix2 s j) = proj k W bk s j * (((Real.sqrt 8)⁻¹ : ℝ) : EReal) := by
  pointwise [k0_pay8]
  rfl

theorem pay9_at (k : Vec Ideal S16x64 .f32) (W : Vec Ideal S64x64 .f32) (bk : Vec Ideal S64 .f32) (s : Fin 16)
    (j : Fin 64) : k0_pay9 (F := Ideal) k W bk (ix2 s j) = proj k W bk s j := by
  pointwise [k0_pay9]
  rfl

theorem pay10_at (s : Fin 16) (j : Fin 64) : k0_pay10 (F := Ideal) (ix2 s j) = 0 := by
  pointwise [k0_pay10]

end Cert.KernelIdeal.At

end
-- ==== Proof.Value.KerBlocks.lean ====
/-
  The blocks of the idealized kernel's windows read at an index of the argument arrays.
-/
module

public import proofs.«01_k».proof.Proof.Body.Data
public import proofs.«01_k».proof.Proof.Value.KerPay
public import Idealize.ShloMosaic.Lib.Pipeline.ValueKit

@[expose] public section

set_option maxRecDepth 16384

noncomputable section

namespace Cert.KernelIdeal.At

open Cert.KernelIdeal Cert.KernelIdeal.Gen Cert.KernelIdeal.Body Cert.Spec Idealize.ShloMosaic Idealize.ShloMosaic.TcCoe

variable (m : (ℓ : Loc nD τ sig) → Buf (Elt Ideal) ℓ) (c : Dev nD)

/-- The row of the arrays that row `r` of the tile numbered `k` (of four; the numbers repeat) is. -/
def row (k : ℕ) (r : Fin 8192) : Fin 32768 := ⟨k % 4 * 8192 + r.val, by omega⟩

/-! Where each window's block lies at a point. -/

theorem index0 : ∀ t : Fin cfg0.N, t.val < 4 → win0_0.index t = ![t.val % 4, 0] := by decide +kernel
theorem index1 : ∀ t : Fin cfg0.N, win0_1.index t = ![t.val % 4] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0] := by decide +kernel
theorem index6 : ∀ t : Fin cfg0.N, win0_6.index t = ![0, 0] := by decide +kernel
theorem index7 : ∀ t : Fin cfg0.N, win0_7.index t = ![0] := by decide +kernel
theorem index8 : ∀ t : Fin cfg0.N, win0_8.index t = ![0, 0] := by decide +kernel
theorem index9 : ∀ t : Fin cfg0.N, win0_9.index t = ![0] := by decide +kernel
theorem index10 : ∀ t : Fin cfg0.N, win0_10.index t = ![0, 0] := by decide +kernel
theorem index11 : ∀ t : Fin cfg0.N, win0_11.index t = ![0] := by decide +kernel
theorem index12 : ∀ t : Fin cfg0.N, win0_12.flush t = true → 4 ≤ t.val ∧ win0_12.index t = ![t.val % 4, 0] := by decide +kernel

/-- The queries of a tile, during the first pass. -/
theorem blk0 (t : Fin cfg0.N) (ht : t.val < 4) (r : Fin 8192) (j : Fin 64) :
    iblk m c 0 t (ix2 r j) = m ((c.tc : Thread nD τ).loc main_arg0) (ix2 (row t.val r) j) := by
  have e := index0 t ht
  unfold row
  blk_ext [iblk, V, e]

/-- The index words of a tile. -/
theorem blk1 (t : Fin cfg0.N) (r : Fin 8192) :
    iblk m c 1 t (ix1 r) = m ((c.tc : Thread nD τ).loc main_arg3) (ix1 (row t.val r)) := by
  have e := index1 t
  unfold row
  blk_ext [iblk, V, e]

/-! The other inputs' blocks are the whole arrays. -/

theorem blk2 (t : Fin cfg0.N) : iblk m c 2 t = m ((c.tc : Thread nD τ).loc main_arg1) := by
  have e := index2 t
  funext i
  blk_ext [iblk, V, e]

theorem blk3 (t : Fin cfg0.N) : iblk m c 3 t = m ((c.tc : Thread nD τ).loc main_arg2) := by
  have e := index3 t
  funext i
  blk_ext [iblk, V, e]

theorem blk4 (t : Fin cfg0.N) : iblk m c 4 t = m ((c.tc : Thread nD τ).loc main_arg4) := by
  have e := index4 t
  funext i
  blk_ext [iblk, V, e]

theorem blk5 (t : Fin cfg0.N) : iblk m c 5 t = m ((c.tc : Thread nD τ).loc main_arg5) := by
  have e := index5 t
  funext i
  blk_ext [iblk, V, e]

theorem blk6 (t : Fin cfg0.N) : iblk m c 6 t = m ((c.tc : Thread nD τ).loc main_arg6) := by
  have e := index6 t
  funext i
  blk_ext [iblk, V, e]

theorem blk7 (t : Fin cfg0.N) : iblk m c 7 t = m ((c.tc : Thread nD τ).loc main_arg7) := by
  have e := index7 t
  funext i
  blk_ext [iblk, V, e]

theorem blk8 (t : Fin cfg0.N) : iblk m c 8 t = m ((c.tc : Thread nD τ).loc main_arg8) := by
  have e := index8 t
  funext i
  blk_ext [iblk, V, e]

theorem blk9 (t : Fin cfg0.N) : iblk m c 9 t = m ((c.tc : Thread nD τ).loc main_arg9) := by
  have e := index9 t
  funext i
  blk_ext [iblk, V, e]

theorem blk10 (t : Fin cfg0.N) : iblk m c 10 t = m ((c.tc : Thread nD τ).loc main_arg10) := by
  have e := index10 t
  funext i
  blk_ext [iblk, V, e]

theorem blk11 (t : Fin cfg0.N) : iblk m c 11 t = m ((c.tc : Thread nD τ).loc main_arg11) := by
  have e := index11 t
  funext i
  blk_ext [iblk, V, e]

end Cert.KernelIdeal.At

end
-- ==== Proof.Value.KerVal.lean ====
/-
  What the idealized kernel stores: the result at a row and a column, in terms of the arguments.
-/
module

public import proofs.«01_k».proof.Proof.Value.KerBlocks

@[expose] public section

set_option maxRecDepth 16384

noncomputable section

namespace Cert.KernelIdeal.At

open Cert.KernelIdeal Cert.KernelIdeal.Gen Cert.KernelIdeal.Body Cert.Spec Idealize.ShloMosaic Idealize.ShloMosaic.TcCoe

/-! ## The kernel's function of its arguments -/

/-- The exponential of a score, the key scaled by `1/√8`. -/
def kex (x0 : S32768x64.Idx → EReal) (x1 : S16x64.Idx → EReal) (x3 : S32768.Idx → BitVec 32) (x4 : S64x64.Idx → EReal)
    (x5 : S64.Idx → EReal) (x6 : S64x64.Idx → EReal) (x7 : S64.Idx → EReal) (n : Fin 32768) (j : Fin 64) : EReal :=
  Ideal.exp (proj x0 x4 x5 n j * (proj x1 x6 x7 (seg x3 n) j * (((Real.sqrt 8)⁻¹ : ℝ) : EReal)))

/-- The sum of a segment's exponentials. -/
def kden (x0 : S32768x64.Idx → EReal) (x1 : S16x64.Idx → EReal) (x3 : S32768.Idx → BitVec 32) (x4 : S64x64.Idx → EReal)
    (x5 : S64.Idx → EReal) (x6 : S64x64.Idx → EReal) (x7 : S64.Idx → EReal) (s : Fin 16) (j : Fin 64) : EReal :=
  ∑ n ∈ members x3 s, kex x0 x1 x3 x4 x5 x6 x7 n j

/-- The value over the sum of exponentials (over one for an empty segment). -/
def kwt (x0 : S32768x64.Idx → EReal) (x1 x2 : S16x64.Idx → EReal) (x3 : S32768.Idx → BitVec 32) (x4 : S64x64.Idx → EReal)
    (x5 : S64.Idx → EReal) (x6 : S64x64.Idx → EReal) (x7 : S64.Idx → EReal) (x8 : S64x64.Idx → EReal)
    (x9 : S64.Idx → EReal) (s : Fin 16) (j : Fin 64) : EReal :=
  Ideal.div (proj x2 x8 x9 s j) (if kden x0 x1 x3 x4 x5 x6 x7 s j = 0 then 1 else kden x0 x1 x3 x4 x5 x6 x7 s j)

/-- The result at a row and a column. -/
def kout (x0 : S32768x64.Idx → EReal) (x1 x2 : S16x64.Idx → EReal) (x3 : S32768.Idx → BitVec 32) (x4 : S64x64.Idx → EReal)
    (x5 : S64.Idx → EReal) (x6 : S64x64.Idx → EReal) (x7 : S64.Idx → EReal) (x8 : S64x64.Idx → EReal)
    (x9 : S64.Idx → EReal) (x10 : S64x64.Idx → EReal) (x11 : S64.Idx → EReal) (n : Fin 32768) (f : Fin 64) : EReal :=
  (∑ j : Fin 64, (kex x0 x1 x3 x4 x5 x6 x7 n j * kwt x0 x1 x2 x3 x4 x5 x6 x7 x8 x9 (seg x3 n) j) * x10 (ix2 f j))
    + x11 (ix1 f)

variable (m : (ℓ : Loc nD τ sig) → Buf (Elt Ideal) ℓ) (c : Dev nD)

/-- Argument arrays as functions of their indices. -/
abbrev a0 : S32768x64.Idx → EReal := m ((c.tc : Thread nD τ).loc main_arg0)
abbrev a1 : S16x64.Idx → EReal := m ((c.tc : Thread nD τ).loc main_arg1)
abbrev a2 : S16x64.Idx → EReal := m ((c.tc : Thread nD τ).loc main_arg2)
abbrev a3 : S32768.Idx → BitVec 32 := m ((c.tc : Thread nD τ).loc main_arg3)
abbrev a4 : S64x64.Idx → EReal := m ((c.tc : Thread nD τ).loc main_arg4)
abbrev a5 : S64.Idx → EReal := m ((c.tc : Thread nD τ).loc main_arg5)
abbrev a6 : S64x64.Idx → EReal := m ((c.tc : Thread nD τ).loc main_arg6)
abbrev a7 : S64.Idx → EReal := m ((c.tc : Thread nD τ).loc main_arg7)
abbrev a8 : S64x64.Idx → EReal := m ((c.tc : Thread nD τ).loc main_arg8)
abbrev a9 : S64.Idx → EReal := m ((c.tc : Thread nD τ).loc main_arg9)
abbrev a10 : S64x64.Idx → EReal := m ((c.tc : Thread nD τ).loc main_arg10)
abbrev a11 : S64.Idx → EReal := m ((c.tc : Thread nD τ).loc main_arg11)

variable (hb : ∀ n : Fin 32768, (a3 m c (ix1 n)).toNat < 16)

/-! ## A tile -/

include hb in
/-- A tile's index words are in range. -/
theorem tile_inRange (t : Fin cfg0.N) : TInRange (iblk m c 1 t) := fun r => by
  rw [blk1 m c t r]; exact hb _

/-- A tile's segments are the array's, at the tile's rows. -/
theorem tile_seg (t : Fin cfg0.N) (r : Fin 8192) : tseg (iblk m c 1 t) r = seg (a3 m c) (row t.val r) := by
  apply Fin.ext
  show (iblk m c 1 t (ix1 r)).toNat % 16 = _
  rw [blk1 m c t r]
  rfl

/-- The scaled keys. -/
theorem KP_at (s : Fin 16) (j : Fin 64) :
    KP m c (ix2 s j) = proj (a1 m c) (a6 m c) (a7 m c) s j * (((Real.sqrt 8)⁻¹ : ℝ) : EReal) := by
  unfold KP
  rw [pay8_at, blk2, blk6, blk7]

/-- The values. -/
theorem VP_at (s : Fin 16) (j : Fin 64) : VP m c (ix2 s j) = proj (a2 m c) (a8 m c) (a9 m c) s j := by
  unfold VP
  rw [pay9_at, blk3, blk8, blk9]

/-- The last weights. -/
theorem WO_at (f j : Fin 64) : WO m c (ix2 f j) = a10 m c (ix2 f j) := by
  unfold WO
  rw [pay7_at, blk10]

/-- A tile's exponentials are the whole array's, at the tile's rows. -/
theorem tile_tex (t : Fin cfg0.N) (ht : t.val < 4) (r : Fin 8192) (j : Fin 64) :
    tex (iblk m c 1 t) (iblk m c 0 t) (iblk m c 4 t) (KP m c) (iblk m c 5 t) r j
      = kex (a0 m c) (a1 m c) (a3 m c) (a4 m c) (a5 m c) (a6 m c) (a7 m c) (row t.val r) j := by
  unfold tex kex
  rw [tile_seg, KP_at, blk4, blk5]
  refine congrArg Ideal.exp (congrArg (· * _) ?_)
  unfold proj
  exact congrArg (· + _) (Finset.sum_congr rfl fun k _ => by rw [blk0 m c t ht r k])

theorem pt_lt (n : ℕ) (h : n < 4) : (pt n).val = n := Nat.mod_eq_of_lt (by omega)

include hb in
/-- What a point of the first pass stores of the exponentials. -/
theorem EX_at (n : ℕ) (h : n < 4) (z : Fin 1) (r : Fin 8192) (j : Fin 64) :
    EX m c n (ix3 z r j)
      = kex (a0 m c) (a1 m c) (a3 m c) (a4 m c) (a5 m c) (a6 m c) (a7 m c) (row n r) j := by
  have e := pt_lt n h
  unfold EX
  rw [pay3_at _ (tile_inRange m c hb _), tile_tex m c _ (by omega), e]

/-! ## The sums of exponentials -/

/-- A sum over all rows is the sum over the four tiles' rows. -/
theorem sum_rows (g : Fin 32768 → EReal) :
    ∑ n, g n = ((∑ r, g (row 0 r) + ∑ r, g (row 1 r)) + ∑ r, g (row 2 r)) + ∑ r, g (row 3 r) := by
  have h := Equiv.sum_comp (finProdFinEquiv (m := 4) (n := 8192)) g
  rw [← h, Fintype.sum_prod_type, Fin.sum_univ_four]
  have e : ∀ (k : Fin 4) (r : Fin 8192), finProdFinEquiv (k, r) = row k.val r := fun k r => by
    apply Fin.ext
    simp only [finProdFinEquiv_apply_val, row]
    omega
  simp only [e]
  rfl

include hb in
/-- A point of the first pass adds its tile's exponentials to the sums. -/
theorem DEN_step (n : ℕ) (h : n < 4) (s : Fin 16) (j : Fin 64) :
    DEN m c (n + 1) (ix2 s j) = DEN m c n (ix2 s j)
      + ∑ r : Fin 8192, if seg (a3 m c) (row n r) = s
          then kex (a0 m c) (a1 m c) (a3 m c) (a4 m c) (a5 m c) (a6 m c) (a7 m c) (row n r) j else 0 := by
  have e := pt_lt n h
  rw [DEN_succ m c n h, pay4_at _ (tile_inRange m c hb _), Finset.sum_filter]
  refine congrArg _ (Finset.sum_congr rfl fun r _ => ?_)
  rw [tile_seg, tile_tex m c _ (by omega), e]

include hb in
/-- After the first pass the sums are the segments'. -/
theorem DEN_at (s : Fin 16) (j : Fin 64) :
    DEN m c 4 (ix2 s j) = kden (a0 m c) (a1 m c) (a3 m c) (a4 m c) (a5 m c) (a6 m c) (a7 m c) s j := by
  unfold kden members
  rw [Finset.sum_filter, sum_rows, DEN_step m c hb 3 (by omega), DEN_step m c hb 2 (by omega),
    DEN_step m c hb 1 (by omega), DEN_step m c hb 0 (by omega)]
  rw [show DEN m c 0 (ix2 s j) = 0 from pay10_at s j, zero_add]

include hb in
/-- The table of weighted values. -/
theorem WTAB_at (s : Fin 16) (j : Fin 64) :
    WTAB m c (ix2 s j) = kwt (a0 m c) (a1 m c) (a2 m c) (a3 m c) (a4 m c) (a5 m c) (a6 m c) (a7 m c) (a8 m c) (a9 m c) s j := by
  unfold WTAB kwt
  rw [pay5_at, VP_at, DEN_at m c hb]

/-! ## The kept exponentials -/

include hb in
/-- The exponentials that a point of the second pass reads back. -/
theorem EFIN_window (t : ℕ) (r : Fin 8192) (j : Fin 64) :
    VecWindow.window (EFIN m c) ![t % 4, 0, 0] S1x8192x64.size (slot_inb t) (ix3 0 r j)
      = kex (a0 m c) (a1 m c) (a3 m c) (a4 m c) (a5 m c) (a6 m c) (a7 m c) (row t r) j := by
  have h := EX_at m c hb (t % 4) (Nat.mod_lt _ (by decide)) 0 r j
  rw [show row (t % 4) r = row t r from Fin.ext (by simp [row])] at h
  rw [← h]
  unfold VecWindow.window EFIN
  refine congr (congrArg (EX m c) ?_) (funext fun a => ?_)
  · simp
  · match a with
    | 0 => rfl
    | 1 => exact Fin.ext (by simp)
    | 2 => exact Fin.ext (by simp)

/-- The tile of the result at a point. -/
theorem OUT_at (hb : ∀ n : Fin 32768, (a3 m c (ix1 n)).toNat < 16) (t : Fin cfg0.N) (r : Fin 8192) (f : Fin 64) :
    OUT m c t (ix2 r f)
      = kout (a0 m c) (a1 m c) (a2 m c) (a3 m c) (a4 m c) (a5 m c) (a6 m c) (a7 m c) (a8 m c) (a9 m c) (a10 m c) (a11 m c)
          (row t.val r) f := by
  unfold OUT kout
  rw [pay6_at _ (tile_inRange m c hb _), blk11]
  refine congrArg (· + _) (Finset.sum_congr rfl fun j _ => ?_)
  rw [EFIN_window m c hb, WTAB_at m c hb, WO_at, tile_seg]

/-- The result's array after the run. -/
theorem final (hb : ∀ n : Fin 32768, (a3 m c (ix1 n)).toNat < 16) :
    (dats m 0 c).arrAt 12 cfg0.N
      = fun i => kout (a0 m c) (a1 m c) (a2 m c) (a3 m c) (a4 m c) (a5 m c) (a6 m c) (a7 m c) (a8 m c) (a9 m c) (a10 m c) (a11 m c)
          (i 0) (i 1) := by
  refine (dats m 0 c).arrAt_eq_of_covers 12 _ (by decide +kernel) fun t hf y => ?_
  have e := (index12 t hf).2
  obtain ⟨r, f, rfl⟩ : ∃ (r : Fin 8192) (f : Fin 64), y = ix2 r f := ⟨y 0, y 1, eq_ix2 y⟩
  have h0 : ((cfg0.win 12).blk t).view.emb (ix2 r f) = (ix2 (row t.val r) f : S32768x64.Idx) := by
    unfold row
    blk_ext [e]
  rw [after0_12]
  refine Eq.trans ?_ ((OUT_at m c hb t r f).trans ?_)
  · rfl
  · exact (congrArg (fun i : S32768x64.Idx => kout (a0 m c) (a1 m c) (a2 m c) (a3 m c) (a4 m c) (a5 m c) (a6 m c) (a7 m c)
      (a8 m c) (a9 m c) (a10 m c) (a11 m c) (i 0) (i 1)) h0).symm

end Cert.KernelIdeal.At

end
-- ==== Proof.Value.RefOps.lean ====
/-
  The reference's four gathers, its segment sum and its segment maximum, read at an index.
-/
module

public import proofs.«01_k».proof.Proof.Gen.ReferenceIdeal.Read
public import Idealize.ShloMosaic.Lib.Pointwise.Index

@[expose] public section

set_option maxRecDepth 16384

noncomputable section

namespace Cert.ReferenceIdeal.At

open Cert.ReferenceIdeal Cert.ReferenceIdeal.Gen Idealize.ShloMosaic

/-- A gather of one 8×8 slice per row, read at an index: the operand at the row's index word, read signed and held
    inside the sixteen slices. -/
theorem gather_at {α : Type} (x : S16x8x8.Idx → α) (idx : IVec S32768x1 32) (n : Fin 32768) (h d : Fin 8) (s : Fin 16)
    (hs : min (idx (ix2 n 0)).toInt.toNat 15 = s.val) :
    Host.gather gather_S16x8x8_S32768x1_S32768x8x8_12_0_n_n_0_1_188 x idx (ix3 n h d) = x (ix3 s h d) := by
  unfold Host.gather
  congr 1
  funext a
  refine Fin.ext ?_
  change gather_S16x8x8_S32768x1_S32768x8x8_12_0_n_n_0_1_188.start (ix3 n h d) idx a
    + gather_S16x8x8_S32768x1_S32768x8x8_12_0_n_n_0_1_188.batchCoord (ix3 n h d) a
    + gather_S16x8x8_S32768x1_S32768x8x8_12_0_n_n_0_1_188.offCoord (ix3 n h d) a = (ix3 s h d a).val
  rw [GatherDims.batchCoord_eq_zero _ _ _ List.not_mem_nil]
  have e0 : gather_S16x8x8_S32768x1_S32768x8x8_12_0_n_n_0_1_188.start (ix3 n h d) idx 0 = s.val := by
    unfold GatherDims.start
    rw [dif_pos (by decide)]
    refine Eq.trans ?_ hs
    congr 4
    funext b
    refine Fin.ext ?_
    match b with
    | ⟨0, _⟩ => rfl
    | ⟨1, _⟩ => rfl
  have e1 : gather_S16x8x8_S32768x1_S32768x8x8_12_0_n_n_0_1_188.start (ix3 n h d) idx 1 = 0 := by
    unfold GatherDims.start
    rw [dif_neg (by decide)]
  have e2 : gather_S16x8x8_S32768x1_S32768x8x8_12_0_n_n_0_1_188.start (ix3 n h d) idx 2 = 0 := by
    unfold GatherDims.start
    rw [dif_neg (by decide)]
  have o0 : gather_S16x8x8_S32768x1_S32768x8x8_12_0_n_n_0_1_188.offCoord (ix3 n h d) 0 = 0 :=
    GatherDims.offCoord_eq_zero _ _ _ (fun h => ((GatherDims.mem_sKept _ _).mp h).1 (by decide))
  have o1 : gather_S16x8x8_S32768x1_S32768x8x8_12_0_n_n_0_1_188.offCoord (ix3 n h d) 1 = h.val := rfl
  have o2 : gather_S16x8x8_S32768x1_S32768x8x8_12_0_n_n_0_1_188.offCoord (ix3 n h d) 2 = d.val := rfl
  match a with
  | ⟨0, _⟩ => exact (congrArg₂ (fun x y => x + 0 + y) e0 o0).trans (by simp)
  | ⟨1, _⟩ => exact (congrArg₂ (fun x y => x + 0 + y) e1 o1).trans (by simp)
  | ⟨2, _⟩ => exact (congrArg₂ (fun x y => x + 0 + y) e2 o2).trans (by simp)

/-- Where a row's update lands in the segment sum: at the segment its index word names, when that is one of the
    sixteen. -/
theorem lands_at (idx : IVec S32768x1 32) (n : Fin 32768) (h d : Fin 8) (s : Fin 16)
    (hs : (idx (ix2 n 0)).toInt = (s.val : Int)) :
    scatter_S16x8x8_S32768x1_S32768x8x8_12_0_0_1.resultIdx? (ix3 n h d) idx = some (ix3 s h d) := by
  have e0 : scatter_S16x8x8_S32768x1_S32768x8x8_12_0_0_1.start (ix3 n h d) idx 0 = (s.val : Int) := by
    unfold ScatterDims.start
    rw [dif_pos (by decide)]
    refine Eq.trans ?_ hs
    congr 2
    funext b
    refine Fin.ext ?_
    match b with
    | ⟨0, _⟩ => rfl
    | ⟨1, _⟩ => rfl
  have e1 : scatter_S16x8x8_S32768x1_S32768x8x8_12_0_0_1.start (ix3 n h d) idx 1 = 0 := by
    unfold ScatterDims.start
    rw [dif_neg (by decide)]
  have e2 : scatter_S16x8x8_S32768x1_S32768x8x8_12_0_0_1.start (ix3 n h d) idx 2 = 0 := by
    unfold ScatterDims.start
    rw [dif_neg (by decide)]
  have w0 : scatter_S16x8x8_S32768x1_S32768x8x8_12_0_0_1.window (ix3 n h d) 0 = 0 := by
    unfold ScatterDims.window
    rw [dif_neg (by decide)]
  have w1 : scatter_S16x8x8_S32768x1_S32768x8x8_12_0_0_1.window (ix3 n h d) 1 = h.val := rfl
  have w2 : scatter_S16x8x8_S32768x1_S32768x8x8_12_0_0_1.window (ix3 n h d) 2 = d.val := rfl
  have hall : ∀ a, scatter_S16x8x8_S32768x1_S32768x8x8_12_0_0_1.start (ix3 n h d) idx a
      + scatter_S16x8x8_S32768x1_S32768x8x8_12_0_0_1.window (ix3 n h d) a = ((ix3 s h d a).val : Int) := by
    intro a
    match a with
    | ⟨0, _⟩ => exact (congrArg₂ (fun x (y : Nat) => x + (y : Int)) e0 w0).trans (by simp)
    | ⟨1, _⟩ => exact (congrArg₂ (fun x (y : Nat) => x + (y : Int)) e1 w1).trans (by simp)
    | ⟨2, _⟩ => exact (congrArg₂ (fun x (y : Nat) => x + (y : Int)) e2 w2).trans (by simp)
  unfold ScatterDims.resultIdx?
  rw [dif_pos (fun a => by rw [hall a]; exact ⟨by omega, by exact_mod_cast (ix3 s h d a).isLt⟩)]
  congr 1
  funext a
  refine Fin.ext ?_
  change (scatter_S16x8x8_S32768x1_S32768x8x8_12_0_0_1.start (ix3 n h d) idx a
      + scatter_S16x8x8_S32768x1_S32768x8x8_12_0_0_1.window (ix3 n h d) a).toNat = _
  rw [hall a]; rfl

/-- A sum over the places a one-to-one map reaches from a set is the sum over that set. -/
theorem sum_reached {ι κ : Type} [Fintype κ] (p : κ → Prop) [DecidablePred p] (T : Finset ι) (g : ι → κ)
    (hg : Function.Injective g) (hp : ∀ k, p k ↔ ∃ n ∈ T, g n = k) (u : κ → EReal) :
    ∑ k ∈ Finset.univ.filter p, u k = ∑ n ∈ T, u (g n) := by
  refine (Finset.sum_bij (fun n _ => g n) (fun n hn => ?_) (fun a _ b _ hab => hg hab) (fun k hk => ?_) (fun n _ => rfl)).symm
  · exact Finset.mem_filter.mpr ⟨Finset.mem_univ _, (hp _).mpr ⟨n, hn, rfl⟩⟩
  · obtain ⟨n, hn, e⟩ := (hp k).mp (Finset.mem_filter.mp hk).2
    exact ⟨n, hn, e⟩

/-- The segment sum read at an index, every index word naming one of the sixteen segments: what was there, plus the
    updates of the rows of that segment. -/
theorem scatterAdd_at (x : S16x8x8.Idx → EReal) (idx : IVec S32768x1 32) (u : S32768x8x8.Idx → EReal)
    (seg : Fin 32768 → Fin 16) (hseg : ∀ n, (idx (ix2 n 0)).toInt = ((seg n).val : Int)) (s : Fin 16) (h d : Fin 8) :
    Ideal.hostScatterAdd scatter_S16x8x8_S32768x1_S32768x8x8_12_0_0_1 x idx u (ix3 s h d)
      = x (ix3 s h d) + ∑ n ∈ Finset.univ.filter (fun n => seg n = s), u (ix3 n h d) := by
  unfold Ideal.hostScatterAdd
  refine congrArg (fun w => x (ix3 s h d) + w) ?_
  refine @sum_reached (Fin 32768) S32768x8x8.Idx _ _ _ _ (fun n => ix3 n h d) (fun a b hab => ((ix3_inj _ _ _ _ _ _).mp hab).1) (fun j => ?_) u
  constructor
  · intro e
    have ej : j = ix3 (n0 := 32768) (n1 := 8) (n2 := 8) (j 0) (j 1) (j 2) := eq_ix3 j
    rw [ej, lands_at idx (j 0) (j 1) (j 2) (seg (j 0)) (hseg _)] at e
    have e' := (ix3_inj _ _ _ _ _ _).mp (Option.some.inj e)
    refine ⟨j 0, Finset.mem_filter.mpr ⟨Finset.mem_univ _, e'.1⟩, ?_⟩
    rw [← e'.2.1, ← e'.2.2]
    exact ej.symm
  · rintro ⟨n, hn, rfl⟩
    rw [lands_at idx n h d (seg n) (hseg n), (Finset.mem_filter.mp hn).2]

/-- A maximum over the rows, started below every number, is a real number where no entry is `⊤` and one is a real
    number. -/
theorem reduce_real (x : S32768x16x8x8.Idx → EReal) (init : S_.Idx → EReal) (hi : init (Shape.Idx.first h_S_) = ⊥)
    (s : Fin 16) (h d : Fin 8) (htop : ∀ i, x i ≠ ⊤) (n : Fin 32768) (hn : x (ix4 n s h d) ≠ ⊥) :
    ∃ r : ℝ, Host.reduce (max : EReal → EReal → EReal) x init reducesTo_S32768x16x8x8_S16x8x8_d0 h_S_ (ix3 s h d) = (r : EReal) := by
  rw [Host.reduce_eq_fold, hi]
  have hle : x (ix4 n s h d) ≤ (Finset.univ.filter fun i => reducesTo_S32768x16x8x8_S16x8x8_d0.drop i = ix3 s h d).fold
      (max : EReal → EReal → EReal) ⊥ x :=
    (Finset.le_fold_max _).mpr (Or.inr ⟨ix4 n s h d, Finset.mem_filter.mpr ⟨Finset.mem_univ _, by
      funext a
      refine Fin.ext ?_
      match a with
      | ⟨0, _⟩ => rfl
      | ⟨1, _⟩ => rfl
      | ⟨2, _⟩ => rfl⟩, le_refl _⟩)
  have hlt : (Finset.univ.filter fun i => reducesTo_S32768x16x8x8_S16x8x8_d0.drop i = ix3 s h d).fold
      (max : EReal → EReal → EReal) ⊥ x < ⊤ :=
    (Finset.fold_max_lt _).mpr ⟨bot_lt_top, fun i _ => lt_top_iff_ne_top.mpr (htop i)⟩
  generalize (Finset.univ.filter fun i => reducesTo_S32768x16x8x8_S16x8x8_d0.drop i = ix3 s h d).fold
      (max : EReal → EReal → EReal) ⊥ x = w at hle hlt ⊢
  refine ⟨w.toReal, (EReal.coe_toReal hlt.ne ?_).symm⟩
  rintro rfl
  exact hn (le_bot_iff.mp hle)

end Cert.ReferenceIdeal.At

end
-- ==== Proof.Value.RefVal.lean ====
/-
  The reference read at an index: its scores, its weights, and its result, for index words below sixteen.
-/
module

public import proofs.«01_k».proof.Proof.Value.RefOps
public import proofs.«01_k».proof.Proof.Value.Spec

@[expose] public section

set_option maxRecDepth 16384

noncomputable section

namespace Cert.ReferenceIdeal.At

open Cert.ReferenceIdeal Cert.ReferenceIdeal.Gen Cert.ReferenceIdeal.Read Cert.Spec Idealize.ShloMosaic

variable (x0 : S32768x64.Idx → EReal) (x1 x2 : S16x64.Idx → EReal) (x3 : S32768.Idx → BitVec 32)
  (x4 : S64x64.Idx → EReal) (x5 : S64.Idx → EReal) (x6 : S64x64.Idx → EReal) (x7 : S64.Idx → EReal)
  (x8 : S64x64.Idx → EReal) (x9 : S64.Idx → EReal) (x10 : S64x64.Idx → EReal) (x11 : S64.Idx → EReal)

/-- Every index word is below sixteen. -/
def InRange (b : S32768.Idx → BitVec 32) : Prop := ∀ n : Fin 32768, (b (ix1 n)).toNat < 16

/-- The score of row `n` at column `j`. -/
def score (n : Fin 32768) (j : Fin 64) : EReal :=
  Ideal.div (proj x0 x4 x5 n j * proj x1 x6 x7 (seg x3 n) j) ((Real.sqrt 8 : ℝ) : EReal)

theorem v4_at (n : Fin 32768) (j : Fin 64) :
    val_main_v4 (F := Ideal) x0 x4 x5 (ix2 n j) = proj x0 x4 x5 n j := by
  rw [val_main_v4_apply, val_main_v1_apply, val_main_v3_apply, val_main_v2_apply, Ideal.addf_def]
  unfold proj
  refine congrArg₂ (· + ·) (Finset.sum_congr rfl fun k _ => ?_) ?_
  · rw [val_main_v0_apply]
    refine congrArg₂ (· * ·) (congrArg _ ?_) (congrArg _ ?_) <;> funext a <;> match a with
      | ⟨0, _⟩ => rfl
      | ⟨1, _⟩ => rfl
  · refine congrArg _ ?_
    funext a
    match a with
    | ⟨0, _⟩ => rfl

theorem v9_at (n : Fin 16) (j : Fin 64) :
    val_main_v9 (F := Ideal) x1 x6 x7 (ix2 n j) = proj x1 x6 x7 n j := by
  rw [val_main_v9_apply, val_main_v6_apply, val_main_v8_apply, val_main_v7_apply, Ideal.addf_def]
  unfold proj
  refine congrArg₂ (· + ·) (Finset.sum_congr rfl fun k _ => ?_) ?_
  · rw [val_main_v5_apply]
    refine congrArg₂ (· * ·) (congrArg _ ?_) (congrArg _ ?_) <;> funext a <;> match a with
      | ⟨0, _⟩ => rfl
      | ⟨1, _⟩ => rfl
  · refine congrArg _ ?_
    funext a
    match a with
    | ⟨0, _⟩ => rfl

theorem v14_at (n : Fin 16) (j : Fin 64) :
    val_main_v14 (F := Ideal) x2 x8 x9 (ix2 n j) = proj x2 x8 x9 n j := by
  rw [val_main_v14_apply, val_main_v11_apply, val_main_v13_apply, val_main_v12_apply, Ideal.addf_def]
  unfold proj
  refine congrArg₂ (· + ·) (Finset.sum_congr rfl fun k _ => ?_) ?_
  · rw [val_main_v10_apply]
    refine congrArg₂ (· * ·) (congrArg _ ?_) (congrArg _ ?_) <;> funext a <;> match a with
      | ⟨0, _⟩ => rfl
      | ⟨1, _⟩ => rfl
  · refine congrArg _ ?_
    funext a
    match a with
    | ⟨0, _⟩ => rfl

theorem v15_at (n : Fin 32768) (h d : Fin 8) :
    val_main_v15 (F := Ideal) x0 x4 x5 (ix3 n h d) = proj x0 x4 x5 n (col h d) := by
  rw [val_main_v15_apply, ← v4_at]
  refine congrArg _ ?_
  funext a
  refine Fin.ext ?_
  match a with
  | ⟨0, _⟩ => show ((n.val * 8 + h.val) * 8 + d.val) / 64 = n.val; omega
  | ⟨1, _⟩ => show ((n.val * 8 + h.val) * 8 + d.val) % 64 = h.val * 8 + d.val; omega

theorem v16_at (n : Fin 16) (h d : Fin 8) :
    val_main_v16 (F := Ideal) x1 x6 x7 (ix3 n h d) = proj x1 x6 x7 n (col h d) := by
  rw [val_main_v16_apply, ← v9_at]
  refine congrArg _ ?_
  funext a
  refine Fin.ext ?_
  match a with
  | ⟨0, _⟩ => show ((n.val * 8 + h.val) * 8 + d.val) / 64 = n.val; omega
  | ⟨1, _⟩ => show ((n.val * 8 + h.val) * 8 + d.val) % 64 = h.val * 8 + d.val; omega

theorem v24_at (n : Fin 16) (h d : Fin 8) :
    val_main_v24 (F := Ideal) x2 x8 x9 (ix3 n h d) = proj x2 x8 x9 n (col h d) := by
  rw [val_main_v24_apply, ← v14_at]
  refine congrArg _ ?_
  funext a
  refine Fin.ext ?_
  match a with
  | ⟨0, _⟩ => show ((n.val * 8 + h.val) * 8 + d.val) / 64 = n.val; omega
  | ⟨1, _⟩ => show ((n.val * 8 + h.val) * 8 + d.val) % 64 = h.val * 8 + d.val; omega

/-- A row's index word as the gather's start. -/
theorem start_eq (w : BitVec 32) (hw : w.toNat < 16) : min w.toInt.toNat 15 = w.toNat % 16 := by
  rw [toInt_word w hw, Int.toNat_natCast]; omega

theorem v22_at (hb : InRange x3) (n : Fin 32768) : val_main_v22 (F := Ideal) x3 (ix2 n 0) = x3 (ix1 n) := by
  have e : idx_main_v22 (ix2 n 0) = ix1 n := funext fun a => match a with | ⟨0, _⟩ => rfl
  rw [val_main_v22_apply, e, val_main_v21_apply, val_main_v18_apply, val_main_v20_apply, val_main_v17_apply, val_main_v19_apply,
    val_main_c_apply, val_main_c_0_apply]
  exact wrap_word _ (hb n)

theorem v30_at (hb : InRange x3) (n : Fin 32768) : val_main_v30 (F := Ideal) x3 (ix2 n 0) = x3 (ix1 n) := by
  have e : idx_main_v30 (ix2 n 0) = ix1 n := funext fun a => match a with | ⟨0, _⟩ => rfl
  rw [val_main_v30_apply, e, val_main_v29_apply, val_main_v26_apply, val_main_v28_apply, val_main_v25_apply, val_main_v27_apply,
    val_main_c_1_apply, val_main_c_2_apply]
  exact wrap_word _ (hb n)

theorem v51_at (hb : InRange x3) (n : Fin 32768) : val_main_v51 (F := Ideal) x3 (ix2 n 0) = x3 (ix1 n) := by
  have e : idx_main_v51 (ix2 n 0) = ix1 n := funext fun a => match a with | ⟨0, _⟩ => rfl
  rw [val_main_v51_apply, e, val_main_v50_apply, val_main_v47_apply, val_main_v49_apply, val_main_v46_apply, val_main_v48_apply,
    val_main_c_5_apply, val_main_c_6_apply]
  exact wrap_word _ (hb n)

theorem v63_at (hb : InRange x3) (n : Fin 32768) : val_main_v63 (F := Ideal) x3 (ix2 n 0) = x3 (ix1 n) := by
  have e : idx_main_v63 (ix2 n 0) = ix1 n := funext fun a => match a with | ⟨0, _⟩ => rfl
  rw [val_main_v63_apply, e, val_main_v62_apply, val_main_v59_apply, val_main_v61_apply, val_main_v58_apply, val_main_v60_apply,
    val_main_c_8_apply, val_main_c_9_apply]
  exact wrap_word _ (hb n)

theorem v23_at (hb : InRange x3) (n : Fin 32768) (h d : Fin 8) :
    val_main_v23 (F := Ideal) x1 x3 x6 x7 (ix3 n h d) = proj x1 x6 x7 (seg x3 n) (col h d) := by
  unfold val_main_v23
  rw [gather_at _ _ n h d (seg x3 n) (by rw [v22_at x3 hb]; exact start_eq _ (hb n)), v16_at]

theorem v31_at (hb : InRange x3) (n : Fin 32768) (h d : Fin 8) :
    val_main_v31 (F := Ideal) x2 x3 x8 x9 (ix3 n h d) = proj x2 x8 x9 (seg x3 n) (col h d) := by
  unfold val_main_v31
  rw [gather_at _ _ n h d (seg x3 n) (by rw [v30_at x3 hb]; exact start_eq _ (hb n)), v24_at]

theorem v35_at (hb : InRange x3) (n : Fin 32768) (h d : Fin 8) :
    val_main_v35 (F := Ideal) x0 x1 x3 x4 x5 x6 x7 (ix3 n h d) = score x0 x1 x3 x4 x5 x6 x7 n (col h d) := by
  rw [val_main_v35_apply, val_main_v32_apply, val_main_v34_apply, val_main_v33_apply, val_main_cst_apply, v15_at,
    v23_at x1 x3 x6 x7 hb, Ideal.hostDivf_def, Ideal.mulf_def, Ideal.hostUnary_sqrt_def, Ideal.ofBits_def, ofBits_eight,
    sqrt_eight]
  rfl

theorem v41_at (hb : InRange x3) (n : Fin 32768) (s : Fin 16) :
    val_main_v41 (F := Ideal) x3 (ix2 n s) = if seg x3 n = s then 1#1 else 0#1 := by
  have e : idx_main_v36 (idx_main_v39 (ix2 n s)) = ix1 n := funext fun a => match a with | ⟨0, _⟩ => rfl
  rw [val_main_v41_apply, val_main_v39_apply, val_main_v36_apply, e, val_main_v40_apply, val_main_v38_apply,
    val_main_v37_apply]
  show BitVec.ofBool (x3 (ix1 n) == BitVec.ofNat 32 s.val) = _
  have hw := word_eq_iff _ (hb n) s
  by_cases hs : seg x3 n = s
  · rw [if_pos hs, beq_iff_eq.mpr (hw.mpr hs)]; rfl
  · rw [if_neg hs, beq_eq_false_iff_ne.mpr (fun h => hs (hw.mp h))]; rfl

theorem v44_at (hb : InRange x3) (n : Fin 32768) (s : Fin 16) (h d : Fin 8) :
    val_main_v44 (F := Ideal) x0 x1 x3 x4 x5 x6 x7 (ix4 n s h d)
      = if seg x3 n = s then score x0 x1 x3 x4 x5 x6 x7 n (col h d) else ⊥ := by
  have e1 : idx_main_v42 (idx_main_call0_v1 (ix4 n s h d)) = ix2 n s := funext fun a => match a with
    | ⟨0, _⟩ => rfl
    | ⟨1, _⟩ => rfl
  have e2 : idx_main_v43 (idx_main_call0_v2 (ix4 n s h d)) = ix3 n h d := funext fun a => match a with
    | ⟨0, _⟩ => rfl
    | ⟨1, _⟩ => rfl
    | ⟨2, _⟩ => rfl
  rw [val_main_v44_apply, val_main_call0_v1_apply, val_main_v42_apply, e1, v41_at x3 hb, val_main_call0_v2_apply,
    val_main_v43_apply, e2, v35_at _ _ _ _ _ _ _ hb, val_main_call0_v3_apply, val_main_call0_v0_apply,
    val_main_cst_3_apply, Ideal.ofBits_def, ofBits_neg_inf]
  by_cases hs : seg x3 n = s
  · rw [if_pos hs, if_pos hs]; rfl
  · rw [if_neg hs, if_neg hs]; rfl

/-- The maximum over a segment that has a row is a real number, where every score is. -/
theorem v45_real (hb : InRange x3) (hsc : ∀ n j, ∃ r : ℝ, score x0 x1 x3 x4 x5 x6 x7 n j = (r : EReal))
    (n : Fin 32768) (h d : Fin 8) :
    ∃ r : ℝ, val_main_v45 (F := Ideal) x0 x1 x3 x4 x5 x6 x7 (ix3 (seg x3 n) h d) = (r : EReal) := by
  unfold val_main_v45
  refine reduce_real _ _ ?_ (seg x3 n) h d ?_ n ?_
  · exact ofBits_neg_inf
  · intro i
    obtain ⟨n', s', h', d', rfl⟩ : ∃ (n' : Fin 32768) (s' : Fin 16) (h' d' : Fin 8), i = ix4 n' s' h' d' :=
      ⟨i 0, i 1, i 2, i 3, eq_ix4 i⟩
    rw [v44_at _ _ _ _ _ _ _ hb]
    split
    · obtain ⟨r, hr⟩ := hsc n' (col h' d')
      rw [hr]; exact EReal.coe_ne_top r
    · exact bot_ne_top
  · rw [v44_at _ _ _ _ _ _ _ hb, if_pos rfl]
    obtain ⟨r, hr⟩ := hsc n (col h d)
    rw [hr]; exact EReal.coe_ne_bot r

/-- The maximum over segment `s` at column `j`. -/
def top (s : Fin 16) (j : Fin 64) : EReal := val_main_v45 (F := Ideal) x0 x1 x3 x4 x5 x6 x7 (ix3 s (hd j) (pl j))

theorem col_hd (h d : Fin 8) : hd (col h d) = h := by apply Fin.ext; show (h.val * 8 + d.val) / 8 = h.val; omega
theorem col_pl (h d : Fin 8) : pl (col h d) = d := by apply Fin.ext; show (h.val * 8 + d.val) % 8 = d.val; omega

/-- The exponential of row `n` at column `j`. -/
def ex (n : Fin 32768) (j : Fin 64) : EReal :=
  Ideal.exp (score x0 x1 x3 x4 x5 x6 x7 n j - top x0 x1 x3 x4 x5 x6 x7 (seg x3 n) j)

theorem v54_at (hb : InRange x3) (n : Fin 32768) (h d : Fin 8) :
    val_main_v54 (F := Ideal) x0 x1 x3 x4 x5 x6 x7 (ix3 n h d) = ex x0 x1 x3 x4 x5 x6 x7 n (col h d) := by
  rw [val_main_v54_apply, val_main_v53_apply, v35_at _ _ _ _ _ _ _ hb]
  unfold val_main_v52 ex top
  rw [gather_at _ _ n h d (seg x3 n) (by rw [v51_at x3 hb]; exact start_eq _ (hb n)), col_hd, col_pl,
    Ideal.hostUnary_exp_def, Ideal.subf_def]

/-- The sum of the exponentials over segment `s` at column `j`. -/
def tot (s : Fin 16) (j : Fin 64) : EReal := ∑ n ∈ members x3 s, ex x0 x1 x3 x4 x5 x6 x7 n j

theorem v57_at (hb : InRange x3) (s : Fin 16) (h d : Fin 8) :
    val_main_v57 (F := Ideal) x0 x1 x3 x4 x5 x6 x7 (ix3 s h d) = tot x0 x1 x3 x4 x5 x6 x7 s (col h d) := by
  unfold val_main_v57 Host.scatterAdd
  rw [Ideal.hostScatterAdd_def, scatterAdd_at _ _ _ (seg x3) (fun n => by
    have e : idx_main_v56 (ix2 n 0) = ix1 n := funext fun a => match a with | ⟨0, _⟩ => rfl
    rw [val_main_v56_apply, e]; exact toInt_word _ (hb n)), val_main_v55_apply, val_main_cst_7_apply, Ideal.ofBits_def,
    Ideal.ofBits_zero_f32, zero_add]
  exact Finset.sum_congr rfl fun n _ => v54_at _ _ _ _ _ _ _ hb n h d

/-- The weighted value of row `n` at column `j`. -/
def mix (n : Fin 32768) (j : Fin 64) : EReal :=
  Ideal.div (ex x0 x1 x3 x4 x5 x6 x7 n j) (tot x0 x1 x3 x4 x5 x6 x7 (seg x3 n) j) * proj x2 x8 x9 (seg x3 n) j

theorem v66_at (hb : InRange x3) (n : Fin 32768) (h d : Fin 8) :
    val_main_v66 (F := Ideal) x0 x1 x2 x3 x4 x5 x6 x7 x8 x9 (ix3 n h d)
      = mix x0 x1 x2 x3 x4 x5 x6 x7 x8 x9 n (col h d) := by
  rw [val_main_v66_apply, val_main_v65_apply, v54_at _ _ _ _ _ _ _ hb, v31_at _ _ _ _ hb]
  unfold val_main_v64 mix
  rw [gather_at _ _ n h d (seg x3 n) (by rw [v63_at x3 hb]; exact start_eq _ (hb n)), v57_at _ _ _ _ _ _ _ hb,
    Ideal.hostDivf_def, Ideal.mulf_def]

/-- The reference's result at row `n`, column `f`. -/
theorem v72_at (hb : InRange x3) (n : Fin 32768) (f : Fin 64) :
    val_main_v72 (F := Ideal) x0 x1 x2 x3 x4 x5 x6 x7 x8 x9 x10 x11 (ix2 n f)
      = (∑ k : Fin 64, mix x0 x1 x2 x3 x4 x5 x6 x7 x8 x9 n k * x10 (ix2 f k)) + x11 (ix1 f) := by
  rw [val_main_v72_apply, val_main_v69_apply, val_main_v71_apply, val_main_v70_apply, Ideal.addf_def]
  refine congrArg₂ (· + ·) (Finset.sum_congr rfl fun k _ => ?_) ?_
  · have e : idx_main_v67 (lidx_main_v69 (ix2 n f) k) = ix3 n (hd k) (pl k) := by
      funext a
      refine Fin.ext ?_
      match a with
      | ⟨0, _⟩ => show (n.val * 64 + k.val) / 64 = n.val; omega
      | ⟨1, _⟩ => show (n.val * 64 + k.val) / 8 % 8 = k.val / 8; omega
      | ⟨2, _⟩ => show (n.val * 64 + k.val) % 8 = k.val % 8; omega
    rw [val_main_v67_apply, e, v66_at _ _ _ _ _ _ _ _ _ _ hb, col_hd_pl, val_main_v68_apply]
    refine congrArg₂ (· * ·) rfl (congrArg _ ?_)
    funext a
    match a with
    | ⟨0, _⟩ => rfl
    | ⟨1, _⟩ => rfl
  · refine congrArg _ ?_
    funext a
    match a with
    | ⟨0, _⟩ => rfl

end Cert.ReferenceIdeal.At

end
-- ==== Proof.Value.Softmax.lean ====
/-
  The identity the claim rests on: over a segment, the exponentials divided by their sum are the same with and without
  one real number taken off every exponent.
-/
module

public import Idealize.ShloMosaic.PureOps.Ideal.Laws

@[expose] public section

noncomputable section

namespace Cert.Spec

open Idealize.ShloMosaic

/-- A finite sum of real numbers, as an extended real. -/
theorem coe_sum {ι : Type} (T : Finset ι) (g : ι → ℝ) : ∑ i ∈ T, ((g i : ℝ) : EReal) = ((∑ i ∈ T, g i : ℝ) : EReal) := by
  classical
  induction T using Finset.induction_on with
  | empty => simp
  | insert a T ha ih => rw [Finset.sum_insert ha, Finset.sum_insert ha, ih, EReal.coe_add]

/-- A finite sum of real numbers is a real number. -/
theorem sum_real {ι : Type} (T : Finset ι) (g : ι → EReal) (h : ∀ i, ∃ r : ℝ, g i = (r : EReal)) :
    ∃ r : ℝ, ∑ i ∈ T, g i = (r : EReal) := by
  choose r hr using h
  exact ⟨∑ i ∈ T, r i, by rw [← coe_sum]; exact Finset.sum_congr rfl fun i _ => hr i⟩

/-- The sum of exponentials over a segment with a row is positive. -/
theorem sum_exp_pos {ι : Type} (T : Finset ι) (x : ι → ℝ) (n : ι) (hn : n ∈ T) : 0 < ∑ i ∈ T, Real.exp (x i) :=
  Finset.sum_pos (fun i _ => Real.exp_pos _) ⟨n, hn⟩

/-- The exponential times the value over the sum is the shifted exponential over the shifted sum, times the value. -/
theorem softmax_shift {ι : Type} (T : Finset ι) (x : ι → ℝ) (n : ι) (hn : n ∈ T) (M : ℝ) (v : EReal) :
    Ideal.exp (x n : EReal) * Ideal.div v (∑ i ∈ T, Ideal.exp (x i : EReal))
      = Ideal.div (Ideal.exp ((x n : EReal) - (M : EReal))) (∑ i ∈ T, Ideal.exp ((x i : EReal) - (M : EReal))) * v := by
  have e1 : ∑ i ∈ T, Ideal.exp (x i : EReal) = ((∑ i ∈ T, Real.exp (x i) : ℝ) : EReal) := by
    rw [← coe_sum]; rfl
  have e2 : ∑ i ∈ T, Ideal.exp ((x i : EReal) - (M : EReal)) = ((∑ i ∈ T, Real.exp (x i - M) : ℝ) : EReal) := by
    rw [← coe_sum]
    exact Finset.sum_congr rfl fun i _ => by rw [← EReal.coe_sub, Ideal.exp_coe]
  have p1 := sum_exp_pos T x n hn
  have p2 := sum_exp_pos T (fun i => x i - M) n hn
  have e3 : ∑ i ∈ T, Real.exp (x i - M) = (∑ i ∈ T, Real.exp (x i)) * Real.exp (-M) := by
    rw [Finset.sum_mul]
    exact Finset.sum_congr rfl fun i _ => by rw [← Real.exp_add, sub_eq_add_neg]
  rw [e1, e2, Ideal.div_coe p1.ne', Ideal.div_coe p2.ne', ← EReal.coe_sub, Ideal.exp_coe, Ideal.exp_coe, mul_comm v,
    ← mul_assoc, ← EReal.coe_mul, ← EReal.coe_mul]
  congr 2
  rw [e3, sub_eq_add_neg, Real.exp_add]
  have := Real.exp_pos (-M)
  field_simp

/-- Dividing by a positive number is multiplying by its inverse. -/
theorem scale_eq (a k : ℝ) (r : ℝ) (hr : 0 < r) :
    (a : EReal) * ((k : EReal) * ((r⁻¹ : ℝ) : EReal)) = Ideal.div ((a : EReal) * (k : EReal)) (r : EReal) := by
  rw [Ideal.div_coe hr.ne', ← mul_assoc, one_div]

end Cert.Spec

end
-- ==== Proof.Value.Equation.lean ====
/-
  The equation: for finite queries, keys and their weights, and index words below sixteen, the kernel's function of its
  arguments is the reference's.
-/
module

public import proofs.«01_k».proof.Proof.Value.KerVal
public import proofs.«01_k».proof.Proof.Value.RefVal
public import proofs.«01_k».proof.Proof.Value.Softmax

@[expose] public section

set_option maxRecDepth 16384

noncomputable section

namespace Cert.Equation

open Cert.ReferenceIdeal Cert.ReferenceIdeal.At Cert.ReferenceIdeal.Read Cert.KernelIdeal.At Cert.Spec Idealize.ShloMosaic

/-- Every element of an array is a real number. -/
def AllReal {S : Shape} (x : S.Idx → EReal) : Prop := ∀ i, ∃ r : ℝ, x i = (r : EReal)

/-- A projection of reals by reals is real. -/
theorem proj_real {R : ℕ} (x : (⟨2, ![R, 64]⟩ : Shape).Idx → EReal) (W : (⟨2, ![64, 64]⟩ : Shape).Idx → EReal)
    (b : (⟨1, ![64]⟩ : Shape).Idx → EReal) (hx : AllReal x) (hW : AllReal W) (hb : AllReal b) (n : Fin R) (j : Fin 64) :
    ∃ r : ℝ, proj x W b n j = (r : EReal) := by
  obtain ⟨s, hs⟩ := sum_real Finset.univ (fun k : Fin 64 => x (ix2 n k) * W (ix2 j k)) fun k => by
    obtain ⟨a, ha⟩ := hx (ix2 n k)
    obtain ⟨c, hc⟩ := hW (ix2 j k)
    exact ⟨a * c, by rw [ha, hc, EReal.coe_mul]⟩
  obtain ⟨d, hd⟩ := hb (ix1 j)
  exact ⟨s + d, by unfold proj; rw [hs, hd, EReal.coe_add]⟩

variable (x0 : S32768x64.Idx → EReal) (x1 x2 : S16x64.Idx → EReal) (x3 : S32768.Idx → BitVec 32)
  (x4 : S64x64.Idx → EReal) (x5 : S64.Idx → EReal) (x6 : S64x64.Idx → EReal) (x7 : S64.Idx → EReal)
  (x8 : S64x64.Idx → EReal) (x9 : S64.Idx → EReal) (x10 : S64x64.Idx → EReal) (x11 : S64.Idx → EReal)

section

variable (hb : InRange x3) (h0 : AllReal x0) (h1 : AllReal x1) (h4 : AllReal x4) (h5 : AllReal x5) (h6 : AllReal x6) (h7 : AllReal x7)

include h0 h1 h4 h5 h6 h7 in
/-- The kernel's exponent is the reference's score, and it is real. -/
theorem kex_score (n : Fin 32768) (j : Fin 64) :
    (∃ r : ℝ, score x0 x1 x3 x4 x5 x6 x7 n j = (r : EReal))
      ∧ kex x0 x1 x3 x4 x5 x6 x7 n j = Ideal.exp (score x0 x1 x3 x4 x5 x6 x7 n j) := by
  obtain ⟨a, ha⟩ := proj_real x0 x4 x5 h0 h4 h5 n j
  obtain ⟨k, hk⟩ := proj_real x1 x6 x7 h1 h6 h7 (seg x3 n) j
  have h8 : 0 < Real.sqrt 8 := Real.sqrt_pos.mpr (by norm_num)
  have e := scale_eq a k (Real.sqrt 8) h8
  unfold score kex
  rw [ha, hk, e]
  refine ⟨⟨a * (k * (Real.sqrt 8)⁻¹), ?_⟩, rfl⟩
  rw [← e, EReal.coe_mul, EReal.coe_mul]

include hb h0 h1 h4 h5 h6 h7 in
/-- A row's exponential times its segment's value over the sum is the reference's weight times the value. -/
theorem term_eq (n : Fin 32768) (j : Fin 64) :
    kex x0 x1 x3 x4 x5 x6 x7 n j * kwt x0 x1 x2 x3 x4 x5 x6 x7 x8 x9 (seg x3 n) j
      = mix x0 x1 x2 x3 x4 x5 x6 x7 x8 x9 n j := by
  have hs := kex_score x0 x1 x3 x4 x5 x6 x7 h0 h1 h4 h5 h6 h7
  choose x hx using fun i => (hs i j).1
  obtain ⟨M, hM⟩ := v45_real x0 x1 x3 x4 x5 x6 x7 hb (fun i k => (hs i k).1) n (hd j) (pl j)
  have hn : n ∈ members x3 (seg x3 n) := by simp [members]
  have hk : ∀ i, kex x0 x1 x3 x4 x5 x6 x7 i j = Ideal.exp (x i : EReal) := fun i => by rw [(hs i j).2, hx]
  have hden : kden x0 x1 x3 x4 x5 x6 x7 (seg x3 n) j = ∑ i ∈ members x3 (seg x3 n), Ideal.exp (x i : EReal) :=
    Finset.sum_congr rfl fun i _ => hk i
  have hpos : kden x0 x1 x3 x4 x5 x6 x7 (seg x3 n) j ≠ 0 := by
    have e : ∑ i ∈ members x3 (seg x3 n), Ideal.exp (x i : EReal)
        = ((∑ i ∈ members x3 (seg x3 n), Real.exp (x i) : ℝ) : EReal) := by rw [← coe_sum]; rfl
    rw [hden, e]
    exact_mod_cast (sum_exp_pos _ x n hn).ne'
  have hex : ∀ i ∈ members x3 (seg x3 n), ex x0 x1 x3 x4 x5 x6 x7 i j = Ideal.exp ((x i : EReal) - (M : EReal)) := fun i hi => by
    have e : seg x3 i = seg x3 n := (Finset.mem_filter.mp hi).2
    unfold ex top
    rw [e, hM, hx]
  unfold kwt mix
  rw [if_neg hpos, hden, hk n, hex n hn, softmax_shift _ x n hn M]
  unfold tot
  rw [Finset.sum_congr rfl hex]

include hb h0 h1 h4 h5 h6 h7 in
/-- The kernel's result is the reference's. -/
theorem kout_eq : (fun i : S32768x64.Idx => kout x0 x1 x2 x3 x4 x5 x6 x7 x8 x9 x10 x11 (i 0) (i 1))
    = val_main_v72 (F := Ideal) x0 x1 x2 x3 x4 x5 x6 x7 x8 x9 x10 x11 := by
  funext i
  obtain ⟨n, f, rfl⟩ : ∃ (n : Fin 32768) (f : Fin 64), i = ix2 n f := ⟨i 0, i 1, eq_ix2 i⟩
  rw [v72_at _ _ _ _ _ _ _ _ _ _ _ _ hb]
  show kout x0 x1 x2 x3 x4 x5 x6 x7 x8 x9 x10 x11 n f = _
  unfold kout
  exact congrArg (· + _) (Finset.sum_congr rfl fun j _ => by
    rw [term_eq x0 x1 x2 x3 x4 x5 x6 x7 x8 x9 hb h0 h1 h4 h5 h6 h7])

end

end Cert.Equation

end
-- ==== Proof.Value.Range.lean ====
/-
  What the precondition says: index words below sixteen, and finite queries, keys and their weights.
-/
module

public import proofs.«01_k».proof.Proof.Frames
public import proofs.«01_k».proof.Proof.Value.Equation

@[expose] public section

set_option maxRecDepth 16384

noncomputable section

namespace Cert.Range

open Cert.Proof Cert.Equation Cert.ReferenceIdeal.At Cert.KernelIdeal.At Cert.Spec Idealize.ShloMosaic

/-- A word between zero and sixteen, as the signed comparisons say it, is below sixteen. -/
theorem word_lt (w : BitVec 32) (h : IntOp.andi (IntOp.cmpi .sge w 0#32) (IntOp.cmpi .slt w 16#32) = 1#1) : w.toNat < 16 := by
  have h' : BitVec.ofBool ((0#32).sle w) &&& BitVec.ofBool (w.slt 16#32) = 1#1 := h
  have hle : (0#32).sle w = true := by
    cases e : (0#32).sle w
    · rw [e] at h'; simp at h'
    · rfl
  have hlt : w.slt 16#32 = true := by
    cases e : w.slt 16#32
    · rw [e] at h'; simp at h'
    · rfl
  rw [BitVec.sle_iff_toInt_le] at hle
  rw [BitVec.slt_iff_toInt_lt] at hlt
  have e0 : (0#32).toInt = 0 := by decide
  have e16 : (16#32).toInt = 16 := by decide
  have ew := BitVec.toInt_eq_toNat_cond w
  rw [e0] at hle
  rw [e16] at hlt
  have := w.isLt
  split at ew <;> omega

/-- A value whose magnitude is below infinity is real. -/
theorem real_of_lt (x : EReal) (h : FloatOps.cmpf (F := Ideal) (φ := .f32) .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  have hlt : max x (-x) < ⊤ := by
    by_contra hn
    simp [Ideal.cmp, hn] at h'
  rw [max_lt_iff] at hlt
  induction x with
  | bot => simp at hlt
  | top => simp at hlt
  | coe r => exact ⟨r, rfl⟩

variable (m : (ℓ : Loc Cert.KernelIdeal.nD Cert.KernelIdeal.τ Cert.KernelIdeal.sig) → Buf (Elt Ideal) ℓ)

/-- The precondition, at an argument's every element. -/
theorem of_pre (h : Cert.Pre_KernelIdeal_in_range m) (c : Dev Cert.KernelIdeal.nD) :
    InRange (a3 m c) ∧ AllReal (S := Cert.KernelIdeal.S32768x64) (a0 m c) ∧ AllReal (S := Cert.KernelIdeal.S16x64) (a1 m c)
      ∧ AllReal (S := Cert.KernelIdeal.S64x64) (a4 m c) ∧ AllReal (S := Cert.KernelIdeal.S64) (a5 m c)
      ∧ AllReal (S := Cert.KernelIdeal.S64x64) (a6 m c) ∧ AllReal (S := Cert.KernelIdeal.S64) (a7 m c) := by
  obtain ⟨g3, g0, g1, g4, g5, g6, g7⟩ := h c
  exact ⟨fun n => word_lt _ (congrFun g3 (ix1 n)), fun i => real_of_lt _ (congrFun g0 i), fun i => real_of_lt _ (congrFun g1 i),
    fun i => real_of_lt _ (congrFun g4 i), fun i => real_of_lt _ (congrFun g5 i), fun i => real_of_lt _ (congrFun g6 i),
    fun i => real_of_lt _ (congrFun g7 i)⟩

end Cert.Range

end
-- ==== Proof.lean ====
/-
  The claims put together: the frames of the three programs, the named constant, and the equality of the kernel and the
  reference over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Body.Sound
public import proofs.«01_k».proof.Proof.FrameKernel
public import proofs.«01_k».proof.Proof.Frames
public import proofs.«01_k».proof.Proof.Value.Range
public import Idealize.ShloMosaic.Adequacy
public import Idealize.ShloMosaic.Init

@[expose] public section

noncomputable section

namespace Cert.Proof

open Idealize.ShloMosaic Idealize.ShloMosaic.TcCoe Idealize.SL.Sem Cert.KernelIdeal.At

/-- The kernel ends with the result at `kout` of its arguments, and the reference with the same. -/
theorem algebraic : Cert.algebraic_KernelIdeal_ReferenceIdeal_pre_in_range := by
  intro m ρ m' ρ' hpre hagree
  refine ⟨fun c i => kout (a0 m c) (a1 m c) (a2 m c) (a3 m c) (a4 m c) (a5 m c) (a6 m c) (a7 m c) (a8 m c) (a9 m c)
    (a10 m c) (a11 m c) (i 0) (i 1), ?_, ?_⟩
  · refine (θ_run Cert.KernelIdeal.defs _ _).mono (fun r h c => ⟨?_, h.2.1 c⟩)
      (θ_run_and (Cert.KernelIdeal.Body.run_main m ρ) (Cert.KernelIdeal.Body.frame m ρ))
    exact ((h.1 c).1 12).trans (final m c (Cert.Range.of_pre m hpre c).1)
  · refine (θ_run Cert.ReferenceIdeal.defs _ _).mono (fun r h c => ⟨(h c).1.trans ?_, (h c).2⟩)
      (Cert.ReferenceIdeal.Value.run (F := Ideal) m' ρ')
    obtain ⟨hb, h0, h1, h4, h5, h6, h7⟩ := Cert.Range.of_pre m hpre c
    obtain ⟨e0, e1, e2, e3, e4, e5, e6, e7, e8, e9, e10, e11⟩ := hagree c
    refine (Cert.ReferenceIdeal.Read.val_main_v72_eq m' c).trans ?_
    rw [e0, e1, e2, e3, e4, e5, e6, e7, e8, e9, e10, e11]
    exact (Cert.Equation.kout_eq (a0 m c) (a1 m c) (a2 m c) (a3 m c) (a4 m c) (a5 m c) (a6 m c) (a7 m c) (a8 m c) (a9 m c)
      (a10 m c) (a11 m c) hb h0 h1 h4 h5 h6 h7).symm

/-- Everything that is claimed. -/
theorem claim : Cert.Claim :=
  ⟨Cert.Kernel.Gen.facts, Cert.KernelIdeal.Gen.facts, Cert.ReferenceIdeal.Gen.facts, preFacts,
    frame_kernel, frame_kernelIdeal, frame_kernelIdeal_pre, frame_referenceIdeal, frame_referenceIdeal_pre, preserves, algebraic⟩

end Cert.Proof

end
